-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S2048x32 : Shape := ⟨2, ![2048, 32]⟩
abbrev S_ : Shape := ⟨0, ![]⟩
abbrev S2048x32x1 : Shape := ⟨3, ![2048, 32, 1]⟩
abbrev S2048x1x2 : Shape := ⟨3, ![2048, 1, 2]⟩
abbrev S2048x32x2 : Shape := ⟨3, ![2048, 32, 2]⟩

class Facts : Prop where
  bcast_S_S2048x32 : S_.BroadcastsInDim S2048x32 (![] : Fin 0 → Fin S2048x32.rank)
  bcast_S_S2048x2 : S_.BroadcastsInDim S2048x2 (![] : Fin 0 → Fin S2048x2.rank)
  bcast_S2048x32_S2048x32x1_0_1 : S2048x32.BroadcastsInDim S2048x32x1 (![0, 1] : Fin 2 → Fin S2048x32x1.rank)
  bcast_S2048x2_S2048x1x2_0_2 : S2048x2.BroadcastsInDim S2048x1x2 (![0, 2] : Fin 2 → Fin S2048x1x2.rank)
  bcast_S2048x32x1_S2048x32x2_0_1_2 : S2048x32x1.BroadcastsInDim S2048x32x2 (![0, 1, 2] : Fin 3 → Fin S2048x32x2.rank)
  bcast_S2048x1x2_S2048x32x2_0_1_2 : S2048x1x2.BroadcastsInDim S2048x32x2 (![0, 1, 2] : Fin 3 → Fin S2048x32x2.rank)
  dot_S2048x512_S512x32_S2048x32_1_0_0_1_n_n_wf : DotDims.WF S2048x512 S512x32 S2048x32 [1] [0] [0] [1] [] []

variable [Facts]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def fn {F : FTy → Type} [FloatOps F] (main_arg0 : FVec F S2048x512 .f32) (main_arg1 : FVec F S512x32 .f32) (main_arg2 : IVec S2048x2 32) (main_arg3 : FVec F S4x512x1024 .f32) : IVec S2048x32x2 1 :=
  let main_v0 : FVec F S2048x32 .f32 := (fun l r => Host.dotGeneral dot_S2048x512_S512x32_S2048x32_1_0_0_1_n_n none l r) main_arg0 main_arg1
  let main_v1 : FVec F S2048x32 .f32 := Host.absf main_v0
  let main_cst : FVec F S_ .f32 := constant S_ .f32 0x7F800000#32
  let main_v2 : FVec F S2048x32 .f32 := broadcastInDim S2048x32 ![] bcast_S_S2048x32 main_cst
  let main_v3 : IVec S2048x32 1 := cmpf .olt main_v1 main_v2
  let main_c : IVec S_ 32 := constantI S_ 32 0#32
  let main_v4 : IVec S2048x2 32 := broadcastInDim S2048x2 ![] bcast_S_S2048x2 main_c
  let main_v5 : IVec S2048x2 1 := cmpi .sge main_arg2 main_v4
  let main_c_0 : IVec S_ 32 := constantI S_ 32 32#32
  let main_v6 : IVec S2048x2 32 := broadcastInDim S2048x2 ![] bcast_S_S2048x2 main_c_0
  let main_v7 : IVec S2048x2 1 := cmpi .slt main_arg2 main_v6
  let main_v8 : IVec S2048x2 1 := andi main_v5 main_v7
  let main_v9 : IVec S2048x32x1 1 := broadcastInDim S2048x32x1 ![0, 1] bcast_S2048x32_S2048x32x1_0_1 main_v3
  let main_v10 : IVec S2048x1x2 1 := broadcastInDim S2048x1x2 ![0, 2] bcast_S2048x2_S2048x1x2_0_2 main_v8
  let main_v11 : IVec S2048x32x2 1 := broadcastInDim S2048x32x2 ![0, 1, 2] bcast_S2048x32x1_S2048x32x2_0_1_2 main_v9
  let main_v12 : IVec S2048x32x2 1 := broadcastInDim S2048x32x2 ![0, 1, 2] bcast_S2048x1x2_S2048x32x2_0_1_2 main_v10
  let main_v13 : IVec S2048x32x2 1 := andi main_v11 main_v12
  main_v13
-- ==== Pre_routed_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048x32x1 : Shape := ⟨3, ![2048, 32, 1]⟩
abbrev S2048x1x2 : Shape := ⟨3, ![2048, 1, 2]⟩
abbrev S2048x32x2 : Shape := ⟨3, ![2048, 32, 2]⟩

class Facts : Prop where
  bcast_S_S2048x32 : S_.BroadcastsInDim S2048x32 (![] : Fin 0 → Fin S2048x32.rank)
  bcast_S_S2048x2 : S_.BroadcastsInDim S2048x2 (![] : Fin 0 → Fin S2048x2.rank)
  bcast_S2048x32_S2048x32x1_0_1 : S2048x32.BroadcastsInDim S2048x32x1 (![0, 1] : Fin 2 → Fin S2048x32x1.rank)
  bcast_S2048x2_S2048x1x2_0_2 : S2048x2.BroadcastsInDim S2048x1x2 (![0, 2] : Fin 2 → Fin S2048x1x2.rank)
  bcast_S2048x32x1_S2048x32x2_0_1_2 : S2048x32x1.BroadcastsInDim S2048x32x2 (![0, 1, 2] : Fin 3 → Fin S2048x32x2.rank)
  bcast_S2048x1x2_S2048x32x2_0_1_2 : S2048x1x2.BroadcastsInDim S2048x32x2 (![0, 1, 2] : Fin 3 → Fin S2048x32x2.rank)
  dot_S2048x512_S512x32_S2048x32_1_0_0_1_n_n_wf : DotDims.WF S2048x512 S512x32 S2048x32 [1] [0] [0] [1] [] []

variable [Facts]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def fn {F : FTy → Type} [FloatOps F] (main_arg0 : FVec F S2048x512 .f32) (main_arg1 : FVec F S512x32 .f32) (main_arg2 : IVec S2048x2 32) (main_arg3 : FVec F S32x512x1024 .f32) : IVec S2048x32x2 1 :=
  let main_v0 : FVec F S2048x32 .f32 := (fun l r => Host.dotGeneral dot_S2048x512_S512x32_S2048x32_1_0_0_1_n_n none l r) main_arg0 main_arg1
  let main_v1 : FVec F S2048x32 .f32 := Host.absf main_v0
  let main_cst : FVec F S_ .f32 := constant S_ .f32 0x7F800000#32
  let main_v2 : FVec F S2048x32 .f32 := broadcastInDim S2048x32 ![] bcast_S_S2048x32 main_cst
  let main_v3 : IVec S2048x32 1 := cmpf .olt main_v1 main_v2
  let main_c : IVec S_ 32 := constantI S_ 32 0#32
  let main_v4 : IVec S2048x2 32 := broadcastInDim S2048x2 ![] bcast_S_S2048x2 main_c
  let main_v5 : IVec S2048x2 1 := cmpi .sge main_arg2 main_v4
  let main_c_0 : IVec S_ 32 := constantI S_ 32 32#32
  let main_v6 : IVec S2048x2 32 := broadcastInDim S2048x2 ![] bcast_S_S2048x2 main_c_0
  let main_v7 : IVec S2048x2 1 := cmpi .slt main_arg2 main_v6
  let main_v8 : IVec S2048x2 1 := andi main_v5 main_v7
  let main_v9 : IVec S2048x32x1 1 := broadcastInDim S2048x32x1 ![0, 1] bcast_S2048x32_S2048x32x1_0_1 main_v3
  let main_v10 : IVec S2048x1x2 1 := broadcastInDim S2048x1x2 ![0, 2] bcast_S2048x2_S2048x1x2_0_2 main_v8
  let main_v11 : IVec S2048x32x2 1 := broadcastInDim S2048x32x2 ![0, 1, 2] bcast_S2048x32x1_S2048x32x2_0_1_2 main_v9
  let main_v12 : IVec S2048x32x2 1 := broadcastInDim S2048x32x2 ![0, 1, 2] bcast_S2048x1x2_S2048x32x2_0_1_2 main_v10
  let main_v13 : IVec S2048x32x2 1 := andi main_v11 main_v12
  main_v13
-- ==== Kernel.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S2048x1024 : Shape := ⟨2, ![2048, 1024]⟩
abbrev S7x128x1024 : Shape := ⟨3, ![7, 128, 1024]⟩
abbrev S8x128x1024 : Shape := ⟨3, ![8, 128, 1024]⟩
abbrev S14 : Shape := ⟨1, ![14]⟩
abbrev S_ : Shape := ⟨0, ![]⟩
abbrev S128x512 : Shape := ⟨2, ![128, 512]⟩
abbrev S128x1 : Shape := ⟨2, ![128, 1]⟩
abbrev S128x32 : Shape := ⟨2, ![128, 32]⟩
abbrev S128 : Shape := ⟨1, ![128]⟩
abbrev S128x1024 : Shape := ⟨2, ![128, 1024]⟩
abbrev S1x512x1024 : Shape := ⟨3, ![1, 512, 1024]⟩
abbrev S512x1024 : Shape := ⟨2, ![512, 1024]⟩
abbrev S1x128x1024 : Shape := ⟨3, ![1, 128, 1024]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S512x32, .f32⟩
  | .local _ .vmem, ⟨2, _⟩ => ⟨S2048x2, .i32⟩
  | .local _ .vmem, ⟨3, _⟩ => ⟨S4x512x1024, .f32⟩
  | .local _ .vmem, ⟨4, _⟩ => ⟨S2048x1024, .f32⟩
  | .local _ .vmem, ⟨5, _⟩ => ⟨S7x128x1024, .bf16⟩
  | .local _ .vmem, ⟨6, _⟩ => ⟨S7x128x1024, .bf16⟩
  | .local _ .vmem, ⟨7, _⟩ => ⟨S7x128x1024, .bf16⟩
  | .local _ .vmem, ⟨8, _⟩ => ⟨S7x128x1024, .bf16⟩
  | .local _ .vmem, ⟨9, _⟩ => ⟨S8x128x1024, .bf16⟩
  | .local _ .vmem, ⟨10, _⟩ => ⟨S8x128x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_10 : BitVec 32 := 1#32
  let v19 : BitVec 32 := Scalar.muli v11 c1_i32_10
  let v20 : BitVec 32 := Scalar.addi c0_i32 v19
  v20.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_12 : BitVec 32 := 1#32
  let v21 : BitVec 32 := Scalar.muli v17 c1_i32_12
  let v22 : BitVec 32 := Scalar.addi c0_i32_13 v21
  v22.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_15 : BitVec 32 := 32#32
  let v24 : BitVec 32 := Scalar.addi v5 c32_i32_15
  let c8_i32_16 : BitVec 32 := 8#32
  let v25 : BitVec 32 := Scalar.remsi v24 c8_i32_16
  let c4_i32_17 : BitVec 32 := 4#32
  let v26 : BitVec 1 := Scalar.cmpi .slt v25 c4_i32_17
  let c11_i32_18 : BitVec 32 := 11#32
  let v27 : BitVec 32 := Scalar.subi c11_i32_18 v25
  let v28 : BitVec 32 := Scalar.select v26 v25 v27
  let c256_i32 : BitVec 32 := 256#32
  let v29 : BitVec 32 := Scalar.muli v28 c256_i32
  let v30 : Index := Scalar.indexCast v29
  let c0 : Index := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_15 : BitVec 32 := 32#32
  let v24 : BitVec 32 := Scalar.addi v5 c32_i32_15
  let c8_i32_16 : BitVec 32 := 8#32
  let v25 : BitVec 32 := Scalar.remsi v24 c8_i32_16
  let c4_i32_17 : BitVec 32 := 4#32
  let v26 : BitVec 1 := Scalar.cmpi .slt v25 c4_i32_17
  let c11_i32_18 : BitVec 32 := 11#32
  let v27 : BitVec 32 := Scalar.subi c11_i32_18 v25
  let v28 : BitVec 32 := Scalar.select v26 v25 v27
  let c256_i32 : BitVec 32 := 256#32
  let v29 : BitVec 32 := Scalar.muli v28 c256_i32
  let v33 : Index := Scalar.indexCast v29
  let c0_19 : Index := 0#32
  ![v33.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_15 : BitVec 32 := 32#32
  let v24 : BitVec 32 := Scalar.addi v5 c32_i32_15
  let c8_i32_16 : BitVec 32 := 8#32
  let v25 : BitVec 32 := Scalar.remsi v24 c8_i32_16
  let c4_i32_17 : BitVec 32 := 4#32
  let v26 : BitVec 1 := Scalar.cmpi .slt v25 c4_i32_17
  let c11_i32_18 : BitVec 32 := 11#32
  let v27 : BitVec 32 := Scalar.subi c11_i32_18 v25
  let v28 : BitVec 32 := Scalar.select v26 v25 v27
  let c256_i32 : BitVec 32 := 256#32
  let v29 : BitVec 32 := Scalar.muli v28 c256_i32
  let v36 : Index := Scalar.indexCast v29
  let c1 : Index := 1#32
  ![v36.toNat, 1]
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_60 : BitVec 32 := 1#32
  let v132 : BitVec 32 := Scalar.muli v17 c1_i32_60
  let v133 : BitVec 32 := Scalar.addi c0_i32_61 v132
  v133.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_66 : BitVec 32 := 32#32
  let v142 : BitVec 32 := Scalar.addi v5 c32_i32_66
  let c8_i32_67 : BitVec 32 := 8#32
  let v143 : BitVec 32 := Scalar.remsi v142 c8_i32_67
  let c4_i32_68 : BitVec 32 := 4#32
  let v144 : BitVec 1 := Scalar.cmpi .slt v143 c4_i32_68
  let c11_i32_69 : BitVec 32 := 11#32
  let v145 : BitVec 32 := Scalar.subi c11_i32_69 v143
  let v146 : BitVec 32 := Scalar.select v144 v143 v145
  let c256_i32_70 : BitVec 32 := 256#32
  let v147 : BitVec 32 := Scalar.muli v146 c256_i32_70
  let v148 : Index := Scalar.indexCast v147
  let c0_71 : Index := 0#32
  ![v148.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_72 : BitVec 32 := 32#32
  let v150 : BitVec 32 := Scalar.addi v5 c32_i32_72
  let c8_i32_73 : BitVec 32 := 8#32
  let v151 : BitVec 32 := Scalar.remsi v150 c8_i32_73
  let c4_i32_74 : BitVec 32 := 4#32
  let v152 : BitVec 1 := Scalar.cmpi .slt v151 c4_i32_74
  let c11_i32_75 : BitVec 32 := 11#32
  let v153 : BitVec 32 := Scalar.subi c11_i32_75 v151
  let v154 : BitVec 32 := Scalar.select v152 v151 v153
  let c256_i32_76 : BitVec 32 := 256#32
  let v155 : BitVec 32 := Scalar.muli v154 c256_i32_76
  let c128_i32 : BitVec 32 := 128#32
  let v156 : BitVec 32 := Scalar.addi v155 c128_i32
  let v157 : Index := Scalar.indexCast v156
  let c0_77 : Index := 0#32
  ![v157.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_72 : BitVec 32 := 32#32
  let v150 : BitVec 32 := Scalar.addi v5 c32_i32_72
  let c8_i32_73 : BitVec 32 := 8#32
  let v151 : BitVec 32 := Scalar.remsi v150 c8_i32_73
  let c4_i32_74 : BitVec 32 := 4#32
  let v152 : BitVec 1 := Scalar.cmpi .slt v151 c4_i32_74
  let c11_i32_75 : BitVec 32 := 11#32
  let v153 : BitVec 32 := Scalar.subi c11_i32_75 v151
  let v154 : BitVec 32 := Scalar.select v152 v151 v153
  let c256_i32_76 : BitVec 32 := 256#32
  let v155 : BitVec 32 := Scalar.muli v154 c256_i32_76
  let c128_i32 : BitVec 32 := 128#32
  let v156 : BitVec 32 := Scalar.addi v155 c128_i32
  let v160 : Index := Scalar.indexCast v156
  let c0_78 : Index := 0#32
  ![v160.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_72 : BitVec 32 := 32#32
  let v150 : BitVec 32 := Scalar.addi v5 c32_i32_72
  let c8_i32_73 : BitVec 32 := 8#32
  let v151 : BitVec 32 := Scalar.remsi v150 c8_i32_73
  let c4_i32_74 : BitVec 32 := 4#32
  let v152 : BitVec 1 := Scalar.cmpi .slt v151 c4_i32_74
  let c11_i32_75 : BitVec 32 := 11#32
  let v153 : BitVec 32 := Scalar.subi c11_i32_75 v151
  let v154 : BitVec 32 := Scalar.select v152 v151 v153
  let c256_i32_76 : BitVec 32 := 256#32
  let v155 : BitVec 32 := Scalar.muli v154 c256_i32_76
  let c128_i32 : BitVec 32 := 128#32
  let v156 : BitVec 32 := Scalar.addi v155 c128_i32
  let v163 : Index := Scalar.indexCast v156
  let c1_79 : Index := 1#32
  ![v163.toNat, 1]
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_124 : BitVec 32 := 1#32
  let v259 : BitVec 32 := Scalar.muli v11 c1_i32_124
  let v260 : BitVec 32 := Scalar.addi c0_i32_125 v259
  v260.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c32_i32_130 : BitVec 32 := 32#32
  let v269 : BitVec 32 := Scalar.addi v5 c32_i32_130
  let c8_i32_131 : BitVec 32 := 8#32
  let v270 : BitVec 32 := Scalar.remsi v269 c8_i32_131
  let c4_i32_132 : BitVec 32 := 4#32
  let v271 : BitVec 1 := Scalar.cmpi .slt v270 c4_i32_132
  let c11_i32_133 : BitVec 32 := 11#32
  let v272 : BitVec 32 := Scalar.subi c11_i32_133 v270
  let v273 : BitVec 32 := Scalar.select v271 v270 v272
  let c256_i32_134 : BitVec 32 := 256#32
  let v274 : BitVec 32 := Scalar.muli v273 c256_i32_134
  let c128_i32_135 : BitVec 32 := 128#32
  let v275 : BitVec 32 := Scalar.addi v274 c128_i32_135
  let v276 : Index := Scalar.indexCast v275
  let c0_136 : Index := 0#32
  ![v276.toNat, 0]
def k0_off9 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v278 : BitVec 32 := Scalar.subi v5 c0_i32_137
  let c1_i32_138 : BitVec 32 := 1#32
  let v279 : BitVec 32 := Scalar.subi v278 c1_i32_138
  let c32_i32_139 : BitVec 32 := 32#32
  let v280 : BitVec 32 := Scalar.addi v279 c32_i32_139
  let c8_i32_140 : BitVec 32 := 8#32
  let v281 : BitVec 32 := Scalar.remsi v280 c8_i32_140
  let c4_i32_141 : BitVec 32 := 4#32
  let v282 : BitVec 1 := Scalar.cmpi .slt v281 c4_i32_141
  let c11_i32_142 : BitVec 32 := 11#32
  let v283 : BitVec 32 := Scalar.subi c11_i32_142 v281
  let v284 : BitVec 32 := Scalar.select v282 v281 v283
  let c256_i32_143 : BitVec 32 := 256#32
  let v285 : BitVec 32 := Scalar.muli v284 c256_i32_143
  let v286 : Index := Scalar.indexCast v285
  let c0_144 : Index := 0#32
  ![v286.toNat, 0]
def k0_off10 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v278 : BitVec 32 := Scalar.subi v5 c0_i32_137
  let c1_i32_138 : BitVec 32 := 1#32
  let v279 : BitVec 32 := Scalar.subi v278 c1_i32_138
  let c32_i32_139 : BitVec 32 := 32#32
  let v280 : BitVec 32 := Scalar.addi v279 c32_i32_139
  let c8_i32_140 : BitVec 32 := 8#32
  let v281 : BitVec 32 := Scalar.remsi v280 c8_i32_140
  let c4_i32_141 : BitVec 32 := 4#32
  let v282 : BitVec 1 := Scalar.cmpi .slt v281 c4_i32_141
  let c11_i32_142 : BitVec 32 := 11#32
  let v283 : BitVec 32 := Scalar.subi c11_i32_142 v281
  let v284 : BitVec 32 := Scalar.select v282 v281 v283
  let c256_i32_143 : BitVec 32 := 256#32
  let v285 : BitVec 32 := Scalar.muli v284 c256_i32_143
  let v289 : Index := Scalar.indexCast v285
  let c0_145 : Index := 0#32
  ![v289.toNat, 0]
def k0_off11 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v278 : BitVec 32 := Scalar.subi v5 c0_i32_137
  let c1_i32_138 : BitVec 32 := 1#32
  let v279 : BitVec 32 := Scalar.subi v278 c1_i32_138
  let c32_i32_139 : BitVec 32 := 32#32
  let v280 : BitVec 32 := Scalar.addi v279 c32_i32_139
  let c8_i32_140 : BitVec 32 := 8#32
  let v281 : BitVec 32 := Scalar.remsi v280 c8_i32_140
  let c4_i32_141 : BitVec 32 := 4#32
  let v282 : BitVec 1 := Scalar.cmpi .slt v281 c4_i32_141
  let c11_i32_142 : BitVec 32 := 11#32
  let v283 : BitVec 32 := Scalar.subi c11_i32_142 v281
  let v284 : BitVec 32 := Scalar.select v282 v281 v283
  let c256_i32_143 : BitVec 32 := 256#32
  let v285 : BitVec 32 := Scalar.muli v284 c256_i32_143
  let v292 : Index := Scalar.indexCast v285
  let c1_146 : Index := 1#32
  ![v292.toNat, 1]
def k0_off12 (d0 : Dev nD) (c0_i32_137 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v278 : BitVec 32 := Scalar.subi v5 c0_i32_137
  let c1_i32_138 : BitVec 32 := 1#32
  let v279 : BitVec 32 := Scalar.subi v278 c1_i32_138
  let c32_i32_139 : BitVec 32 := 32#32
  let v280 : BitVec 32 := Scalar.addi v279 c32_i32_139
  let c8_i32_140 : BitVec 32 := 8#32
  let v281 : BitVec 32 := Scalar.remsi v280 c8_i32_140
  let c4_i32_141 : BitVec 32 := 4#32
  let v282 : BitVec 1 := Scalar.cmpi .slt v281 c4_i32_141
  let c11_i32_142 : BitVec 32 := 11#32
  let v283 : BitVec 32 := Scalar.subi c11_i32_142 v281
  let v284 : BitVec 32 := Scalar.select v282 v281 v283
  let c256_i32_143 : BitVec 32 := 256#32
  let v285 : BitVec 32 := Scalar.muli v284 c256_i32_143
  let v384 : Index := Scalar.indexCast v285
  let c0_184 : Index := 0#32
  ![v384.toNat, 0]
def k0_off13 (d0 : Dev nD) (c0_i32_185 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v386 : BitVec 32 := Scalar.addi v5 c0_i32_185
  let c1_i32_186 : BitVec 32 := 1#32
  let v387 : BitVec 32 := Scalar.addi v386 c1_i32_186
  let c32_i32_187 : BitVec 32 := 32#32
  let v388 : BitVec 32 := Scalar.addi v387 c32_i32_187
  let c8_i32_188 : BitVec 32 := 8#32
  let v389 : BitVec 32 := Scalar.remsi v388 c8_i32_188
  let c4_i32_189 : BitVec 32 := 4#32
  let v390 : BitVec 1 := Scalar.cmpi .slt v389 c4_i32_189
  let c11_i32_190 : BitVec 32 := 11#32
  let v391 : BitVec 32 := Scalar.subi c11_i32_190 v389
  let v392 : BitVec 32 := Scalar.select v390 v389 v391
  let c256_i32_191 : BitVec 32 := 256#32
  let v393 : BitVec 32 := Scalar.muli v392 c256_i32_191
  let c128_i32_192 : BitVec 32 := 128#32
  let v394 : BitVec 32 := Scalar.addi v393 c128_i32_192
  let v395 : Index := Scalar.indexCast v394
  let c0_193 : Index := 0#32
  ![v395.toNat, 0]
def k0_off14 (d0 : Dev nD) (c0_i32_185 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v386 : BitVec 32 := Scalar.addi v5 c0_i32_185
  let c1_i32_186 : BitVec 32 := 1#32
  let v387 : BitVec 32 := Scalar.addi v386 c1_i32_186
  let c32_i32_187 : BitVec 32 := 32#32
  let v388 : BitVec 32 := Scalar.addi v387 c32_i32_187
  let c8_i32_188 : BitVec 32 := 8#32
  let v389 : BitVec 32 := Scalar.remsi v388 c8_i32_188
  let c4_i32_189 : BitVec 32 := 4#32
  let v390 : BitVec 1 := Scalar.cmpi .slt v389 c4_i32_189
  let c11_i32_190 : BitVec 32 := 11#32
  let v391 : BitVec 32 := Scalar.subi c11_i32_190 v389
  let v392 : BitVec 32 := Scalar.select v390 v389 v391
  let c256_i32_191 : BitVec 32 := 256#32
  let v393 : BitVec 32 := Scalar.muli v392 c256_i32_191
  let c128_i32_192 : BitVec 32 := 128#32
  let v394 : BitVec 32 := Scalar.addi v393 c128_i32_192
  let v398 : Index := Scalar.indexCast v394
  let c0_194 : Index := 0#32
  ![v398.toNat, 0]
def k0_off15 (d0 : Dev nD) (c0_i32_185 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v386 : BitVec 32 := Scalar.addi v5 c0_i32_185
  let c1_i32_186 : BitVec 32 := 1#32
  let v387 : BitVec 32 := Scalar.addi v386 c1_i32_186
  let c32_i32_187 : BitVec 32 := 32#32
  let v388 : BitVec 32 := Scalar.addi v387 c32_i32_187
  let c8_i32_188 : BitVec 32 := 8#32
  let v389 : BitVec 32 := Scalar.remsi v388 c8_i32_188
  let c4_i32_189 : BitVec 32 := 4#32
  let v390 : BitVec 1 := Scalar.cmpi .slt v389 c4_i32_189
  let c11_i32_190 : BitVec 32 := 11#32
  let v391 : BitVec 32 := Scalar.subi c11_i32_190 v389
  let v392 : BitVec 32 := Scalar.select v390 v389 v391
  let c256_i32_191 : BitVec 32 := 256#32
  let v393 : BitVec 32 := Scalar.muli v392 c256_i32_191
  let c128_i32_192 : BitVec 32 := 128#32
  let v394 : BitVec 32 := Scalar.addi v393 c128_i32_192
  let v401 : Index := Scalar.indexCast v394
  let c1_195 : Index := 1#32
  ![v401.toNat, 1]
def k0_off16 (d0 : Dev nD) (c0_i32_185 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v386 : BitVec 32 := Scalar.addi v5 c0_i32_185
  let c1_i32_186 : BitVec 32 := 1#32
  let v387 : BitVec 32 := Scalar.addi v386 c1_i32_186
  let c32_i32_187 : BitVec 32 := 32#32
  let v388 : BitVec 32 := Scalar.addi v387 c32_i32_187
  let c8_i32_188 : BitVec 32 := 8#32
  let v389 : BitVec 32 := Scalar.remsi v388 c8_i32_188
  let c4_i32_189 : BitVec 32 := 4#32
  let v390 : BitVec 1 := Scalar.cmpi .slt v389 c4_i32_189
  let c11_i32_190 : BitVec 32 := 11#32
  let v391 : BitVec 32 := Scalar.subi c11_i32_190 v389
  let v392 : BitVec 32 := Scalar.select v390 v389 v391
  let c256_i32_191 : BitVec 32 := 256#32
  let v393 : BitVec 32 := Scalar.muli v392 c256_i32_191
  let c128_i32_192 : BitVec 32 := 128#32
  let v394 : BitVec 32 := Scalar.addi v393 c128_i32_192
  let v493 : Index := Scalar.indexCast v394
  let c0_233 : Index := 0#32
  ![v493.toNat, 0]
def k0_dev5 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_279 : BitVec 32 := 1#32
  let v537 : BitVec 32 := Scalar.muli v17 c1_i32_279
  let v538 : BitVec 32 := Scalar.addi c0_i32_280 v537
  v538.toNat
def k0_dev6 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_316 : BitVec 32 := 1#32
  let v574 : BitVec 32 := Scalar.muli v11 c1_i32_316
  let v575 : BitVec 32 := Scalar.addi c0_i32_317 v574
  v575.toNat
def k0_dev7 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_465 : BitVec 32 := 1#32
  let v845 : BitVec 32 := Scalar.muli v17 c1_i32_465
  let v846 : BitVec 32 := Scalar.addi c0_i32_466 v845
  v846.toNat
def k0_dev8 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_502 : BitVec 32 := 1#32
  let v882 : BitVec 32 := Scalar.muli v11 c1_i32_502
  let v883 : BitVec 32 := Scalar.addi c0_i32_503 v882
  v883.toNat
def k0_dev9 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_651 : BitVec 32 := 1#32
  let v1153 : BitVec 32 := Scalar.muli v17 c1_i32_651
  let v1154 : BitVec 32 := Scalar.addi c0_i32_652 v1153
  v1154.toNat
def k0_dev10 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_688 : BitVec 32 := 1#32
  let v1190 : BitVec 32 := Scalar.muli v11 c1_i32_688
  let v1191 : BitVec 32 := Scalar.addi c0_i32_689 v1190
  v1191.toNat
def k0_dev11 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_836 : BitVec 32 := 1#32
  let v1461 : BitVec 32 := Scalar.muli v17 c1_i32_836
  let v1462 : BitVec 32 := Scalar.addi c0_i32_837 v1461
  v1462.toNat
def k0_dev12 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_873 : BitVec 32 := 1#32
  let v1498 : BitVec 32 := Scalar.muli v11 c1_i32_873
  let v1499 : BitVec 32 := Scalar.addi c0_i32_874 v1498
  v1499.toNat
def k0_dev13 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1020 : BitVec 32 := 1#32
  let v1769 : BitVec 32 := Scalar.muli v17 c1_i32_1020
  let v1770 : BitVec 32 := Scalar.addi c0_i32_1021 v1769
  v1770.toNat
def k0_dev14 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1057 : BitVec 32 := 1#32
  let v1806 : BitVec 32 := Scalar.muli v11 c1_i32_1057
  let v1807 : BitVec 32 := Scalar.addi c0_i32_1058 v1806
  v1807.toNat
def k0_dev15 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1204 : BitVec 32 := 1#32
  let v2077 : BitVec 32 := Scalar.muli v17 c1_i32_1204
  let v2078 : BitVec 32 := Scalar.addi c0_i32_1205 v2077
  v2078.toNat
def k0_dev16 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1241 : BitVec 32 := 1#32
  let v2114 : BitVec 32 := Scalar.muli v11 c1_i32_1241
  let v2115 : BitVec 32 := Scalar.addi c0_i32_1242 v2114
  v2115.toNat
def k0_dev17 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1389 : BitVec 32 := 1#32
  let v2385 : BitVec 32 := Scalar.muli v17 c1_i32_1389
  let v2386 : BitVec 32 := Scalar.addi c0_i32_1390 v2385
  v2386.toNat
def k0_dev18 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1426 : BitVec 32 := 1#32
  let v2422 : BitVec 32 := Scalar.muli v11 c1_i32_1426
  let v2423 : BitVec 32 := Scalar.addi c0_i32_1427 v2422
  v2423.toNat
def k0_dev19 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1456 : BitVec 32 := 1#32
  let v2448 : BitVec 32 := Scalar.muli v17 c1_i32_1456
  let v2449 : BitVec 32 := Scalar.addi c0_i32_1457 v2448
  v2449.toNat
def k0_off17 (d0 : Dev nD) (c0_i32_1462 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2458 : BitVec 32 := Scalar.subi v5 c0_i32_1462
  let c32_i32_1463 : BitVec 32 := 32#32
  let v2459 : BitVec 32 := Scalar.addi v2458 c32_i32_1463
  let c8_i32_1464 : BitVec 32 := 8#32
  let v2460 : BitVec 32 := Scalar.remsi v2459 c8_i32_1464
  let c4_i32_1465 : BitVec 32 := 4#32
  let v2461 : BitVec 1 := Scalar.cmpi .slt v2460 c4_i32_1465
  let c11_i32_1466 : BitVec 32 := 11#32
  let v2462 : BitVec 32 := Scalar.subi c11_i32_1466 v2460
  let v2463 : BitVec 32 := Scalar.select v2461 v2460 v2462
  let c256_i32_1470 : BitVec 32 := 256#32
  let v2467 : BitVec 32 := Scalar.muli v2463 c256_i32_1470
  let v2468 : Index := Scalar.indexCast v2467
  let c0_1471 : Index := 0#32
  ![v2468.toNat, 0]
def k0_dev20 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1495 : BitVec 32 := 1#32
  let v2484 : BitVec 32 := Scalar.muli v11 c1_i32_1495
  let v2485 : BitVec 32 := Scalar.addi c0_i32_1496 v2484
  v2485.toNat
def k0_off18 (d0 : Dev nD) (c0_i32_1501 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2494 : BitVec 32 := Scalar.addi v5 c0_i32_1501
  let c32_i32_1502 : BitVec 32 := 32#32
  let v2495 : BitVec 32 := Scalar.addi v2494 c32_i32_1502
  let c8_i32_1503 : BitVec 32 := 8#32
  let v2496 : BitVec 32 := Scalar.remsi v2495 c8_i32_1503
  let c4_i32_1504 : BitVec 32 := 4#32
  let v2497 : BitVec 1 := Scalar.cmpi .slt v2496 c4_i32_1504
  let c11_i32_1505 : BitVec 32 := 11#32
  let v2498 : BitVec 32 := Scalar.subi c11_i32_1505 v2496
  let v2499 : BitVec 32 := Scalar.select v2497 v2496 v2498
  let c256_i32_1509 : BitVec 32 := 256#32
  let v2503 : BitVec 32 := Scalar.muli v2499 c256_i32_1509
  let c128_i32_1510 : BitVec 32 := 128#32
  let v2504 : BitVec 32 := Scalar.addi v2503 c128_i32_1510
  let v2505 : Index := Scalar.indexCast v2504
  let c0_1511 : Index := 0#32
  ![v2505.toNat, 0]
def k0_dev21 (d0 : Dev nD) : Nat :=
  let c0_i32_1535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1534 : BitVec 32 := 1#32
  let v2521 : BitVec 32 := Scalar.muli v17 c1_i32_1534
  let v2522 : BitVec 32 := Scalar.addi c0_i32_1535 v2521
  v2522.toNat
def k0_dev22 (d0 : Dev nD) : Nat :=
  let c0_i32_1574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1573 : BitVec 32 := 1#32
  let v2557 : BitVec 32 := Scalar.muli v11 c1_i32_1573
  let v2558 : BitVec 32 := Scalar.addi c0_i32_1574 v2557
  v2558.toNat
def k0_dev23 (d0 : Dev nD) : Nat :=
  let c0_i32_1613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1612 : BitVec 32 := 1#32
  let v2594 : BitVec 32 := Scalar.muli v17 c1_i32_1612
  let v2595 : BitVec 32 := Scalar.addi c0_i32_1613 v2594
  v2595.toNat
def k0_dev24 (d0 : Dev nD) : Nat :=
  let c0_i32_1652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1651 : BitVec 32 := 1#32
  let v2630 : BitVec 32 := Scalar.muli v11 c1_i32_1651
  let v2631 : BitVec 32 := Scalar.addi c0_i32_1652 v2630
  v2631.toNat
def k0_dev25 (d0 : Dev nD) : Nat :=
  let c0_i32_1692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1691 : BitVec 32 := 1#32
  let v2667 : BitVec 32 := Scalar.muli v17 c1_i32_1691
  let v2668 : BitVec 32 := Scalar.addi c0_i32_1692 v2667
  v2668.toNat
def k0_dev26 (d0 : Dev nD) : Nat :=
  let c0_i32_1731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1730 : BitVec 32 := 1#32
  let v2703 : BitVec 32 := Scalar.muli v11 c1_i32_1730
  let v2704 : BitVec 32 := Scalar.addi c0_i32_1731 v2703
  v2704.toNat
def k0_dev27 (d0 : Dev nD) : Nat :=
  let c0_i32_1770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1769 : BitVec 32 := 1#32
  let v2740 : BitVec 32 := Scalar.muli v17 c1_i32_1769
  let v2741 : BitVec 32 := Scalar.addi c0_i32_1770 v2740
  v2741.toNat
def k0_dev28 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1808 : BitVec 32 := 1#32
  let v2776 : BitVec 32 := Scalar.muli v11 c1_i32_1808
  let v2777 : BitVec 32 := Scalar.addi c0_i32_1809 v2776
  v2777.toNat
def k0_dev29 (d0 : Dev nD) : Nat :=
  let c0_i32_1848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c32_i32_5 : BitVec 32 := 32#32
  let v13 : BitVec 32 := Scalar.addi v12 c32_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1847 : BitVec 32 := 1#32
  let v2813 : BitVec 32 := Scalar.muli v17 c1_i32_1847
  let v2814 : BitVec 32 := Scalar.addi c0_i32_1848 v2813
  v2814.toNat
def k0_dev30 (d0 : Dev nD) : Nat :=
  let c0_i32_1887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c32_i32 : BitVec 32 := 32#32
  let v7 : BitVec 32 := Scalar.addi v6 c32_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1886 : BitVec 32 := 1#32
  let v2849 : BitVec 32 := Scalar.muli v11 c1_i32_1886
  let v2850 : BitVec 32 := Scalar.addi c0_i32_1887 v2849
  v2850.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S32x512x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S2048x1024, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x512x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Common.lean ====
/-
  What the modules of this proof share: the resource algebra, the ring of eight devices and its two directions, the
  memrefs and semaphore cells of the transfers, and the contents that every transfer carries.

  The kernel sums, over the eight devices, each device's partial mixture-of-experts output. The 2048 rows are sixteen
  TILES of 128 rows. Eight of them (the even ones) travel the ring to the RIGHT (direction `true`, the kernel's `_p`
  buffers), the other eight to the LEFT (direction `false`, the kernel's `_m` buffers). In either direction a device makes
  fourteen transfers `j = 0 … 13`: the first seven are the reduce-scatter (a partial sum moves on, each device adding its
  own part), the last seven the all-gather (a finished tile moves on unchanged).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No variant is used. -/
abbrev 𝒱₀ : Variants := Variants.none

variable (m : (ℓ : Loc nD τ sig) → Buf (Elt F) ℓ)

/-! ## The ring

Device number and place on the ring: places 0 to 3 are devices 0 to 3, places 4 to 7 devices 7 down to 4. The same map
takes places to devices and devices to places. -/

set_option backward.proofsInPublic true in
/-- Place to device, and device to place. -/
def perm (q : Fin 8) : Fin 8 := if h : q.val < 4 then q else ⟨11 - q.val, by omega⟩

set_option backward.proofsInPublic true in
/-- The device that device `c`'s transfers of direction `d` go to. -/
def nbr (d : Bool) (c : Dev nD) : Dev nD :=
  perm ⟨((perm c).val + (if d then 1 else 7)) % 8, Nat.mod_lt _ (by decide)⟩

set_option backward.proofsInPublic true in
/-- The tile that device `c` meets at step `s` of direction `d`: the places are passed downwards in the direction to the
    right and upwards in the direction to the left. -/
def tidx (c : Dev nD) (d : Bool) (s : ℕ) : Fin 16 :=
  ⟨2 * (perm ⟨((perm c).val + (if d then 7 * s else s)) % 8, Nat.mod_lt _ (by decide)⟩).val + (if d then 0 else 1), by
    have h := (perm ⟨((perm c).val + (if d then 7 * s else s)) % 8, Nat.mod_lt _ (by decide)⟩).isLt
    split <;> omega⟩

theorem nbr_nbr (d : Bool) (c : Dev nD) : nbr (!d) (nbr d c) = c := by revert c d; decide
theorem nbr_nbr' (d : Bool) (c : Dev nD) : nbr d (nbr (!d) c) = c := by revert c d; decide
theorem nbr_true_ne_false (c : Dev nD) : nbr true c ≠ nbr false c := by revert c; decide

/-- The devices moved one place along direction `d`. -/
def ring (d : Bool) : Dev nD ≃ Dev nD := ⟨nbr d, nbr (!d), nbr_nbr d, nbr_nbr' d⟩

/-- What the neighbour meets at a step, the device itself meets one step later. -/
theorem tidx_nbr (d : Bool) (c : Dev nD) (s : Fin 8) : tidx (nbr (!d) c) d s.val = tidx c d (s.val + 1) := by
  revert c d s; decide

/-- The sixteen tiles of a device are the two directions' eight. -/
theorem tidx_inj (c : Dev nD) {d d' : Bool} {s s' : Fin 8} (h : tidx c d s.val = tidx c d' s'.val) : d = d' ∧ s = s' := by
  revert c d d' s s'; decide +kernel
theorem tidx_surj (c : Dev nD) (t : Fin 16) : ∃ d, ∃ s : Fin 8, tidx c d s.val = t := by
  revert c t; decide +kernel

/-! ## The memrefs -/

abbrev xM : Memref sig .tc .vmem S2048x512 .f32 := Memref.whole cc0_stg0_0
abbrev rwM : Memref sig .tc .vmem S512x32 .f32 := Memref.whole cc0_stg1_0
abbrev ixM : Memref sig .tc .vmem S2048x2 .i32 := Memref.whole cc0_stg2_0
abbrev ewM : Memref sig .tc .vmem S4x512x1024 .f32 := Memref.whole cc0_stg3_0
abbrev outM : Memref sig .tc .vmem S2048x1024 .f32 := Memref.whole cc0_stg4_0

/-- The landing buffer of the reduce-scatter, its staging buffer, and the all-gather's buffer, by direction. -/
abbrev cmM : Bool → Memref sig .tc .vmem S7x128x1024 .bf16
  | true => Memref.whole cc0_scratch0 | false => Memref.whole cc0_scratch1
abbrev stM : Bool → Memref sig .tc .vmem S7x128x1024 .bf16
  | true => Memref.whole cc0_scratch2 | false => Memref.whole cc0_scratch3
abbrev agM : Bool → Memref sig .tc .vmem S8x128x1024 .bf16
  | true => Memref.whole cc0_scratch4 | false => Memref.whole cc0_scratch5

/-- A buffer of `n` tiles. -/
abbrev Sn (n : ℕ) : Shape := ⟨3, ![n, 128, 1024]⟩

theorem slot_inb {n : ℕ} (k : Fin n) : ∀ a, (![k.val, 0, 0] : Fin 3 → ℕ) a + S1x128x1024.size a ≤ (Sn n).size a := by
  intro a; have := k.isLt; fin_cases a <;> simp [Sn, Shape.size] <;> omega

/-- Tile `k` of a buffer of `n` tiles: its rectangle, and the memref a transfer names. -/
abbrev slotR {n : ℕ} (k : Fin n) : Rect (Sn n) := Rect.unit (s := Sn n) ![k.val, 0, 0] S1x128x1024.size (slot_inb k)
abbrev slot {n : ℕ} (M : Memref sig .tc .vmem (Sn n) .bf16) (k : Fin n) : Memref sig .tc .vmem S128x1024 .bf16 :=
  (M.slice (slotR k) (fun _ => rfl)).squeeze S128x1024 squeezes_S1x128x1024_S128x1024

set_option backward.proofsInPublic true in
/-- The source of transfer `j`, and where it lands on the neighbour. -/
def srcM (d : Bool) (j : Fin 14) : Memref sig .tc .vmem S128x1024 .bf16 :=
  if h : j.val < 7 then slot (stM d) ⟨j.val, h⟩ else slot (agM d) ⟨j.val - 7, by omega⟩
set_option backward.proofsInPublic true in
def dstM (d : Bool) (j : Fin 14) : Memref sig .tc .vmem S128x1024 .bf16 :=
  if h : j.val < 7 then slot (cmM d) ⟨j.val, h⟩ else slot (agM d) ⟨j.val - 6, by omega⟩

/-- In the all-gather, what has landed is the source of the next transfer. -/
theorem dst_eq_src (d : Bool) (j j' : Fin 14) (h : 7 ≤ j.val) (hj : j'.val = j.val + 1) : dstM d j = srcM d j' := by
  unfold dstM srcM
  rw [dif_neg (by omega), dif_neg (by omega)]
  have e : (⟨j.val - 6, by omega⟩ : Fin 8) = ⟨j'.val - 7, by omega⟩ := Fin.ext (by show j.val - 6 = j'.val - 7; omega)
  rw [e]

/-! ## The cells -/

/-- The runtime's barrier semaphore. -/
abbrev barS : Sem sig := (SemArray.scalar (sig.barrier 0 rfl) : Sems sig S_).sem

set_option backward.proofsInPublic true in
/-- The DMA semaphore of transfer `j` of direction `d`: the receiver's (`r = true`) and the sender's. -/
def xsem (r d : Bool) (j : Fin 14) : DmaSem sig :=
  ⟨5 + (if d then 0 else 28) + (if r then 14 else 0) + j.val, by
    have := j.isLt
    show _ < 61
    cases d <;> cases r <;> simp <;> omega⟩

/-- The transfers: direction and number; the cells of a device: the barrier's and each transfer's two. -/
abbrev CP : Type := Bool × Fin 14
abbrev CI : Type := Bool × CP

abbrev osem (x : CI) : SemLoc sig := .dma (xsem x.1 x.2.1 x.2.2)
abbrev csem : Option CI → SemLoc sig | none => .reg barS | some x => osem x

abbrev barCell (c : Dev nD) : GSem nD τ sig := ((c : Thread nD τ), .reg barS)
abbrev sendCell (p : CP) (c : Dev nD) : GSem nD τ sig := ((c : Thread nD τ), osem (false, p))
abbrev recvCell (p : CP) (c : Dev nD) : GSem nD τ sig := ((c : Thread nD τ), osem (true, p))
abbrev kcell (ck : Dev nD × Option CI) : GSem nD τ sig := ((ck.1 : Thread nD τ), csem ck.2)

set_option backward.proofsInPublic true in
/-- Which transfer a DMA semaphore belongs to, and which end. -/
def decode (s : DmaSem sig) : CI :=
  (decide (14 ≤ (s.val - 5) % 28), decide (s.val < 33), ⟨(s.val - 5) % 14, Nat.mod_lt _ (by decide)⟩)

theorem decode_xsem (x : CI) : decode (xsem x.1 x.2.1 x.2.2) = x := by revert x; decide +kernel
theorem xsem_ge (x : CI) : 5 ≤ (xsem x.1 x.2.1 x.2.2).val := by unfold xsem; simp; omega

/-- What one tile's transfer credits. -/
abbrev N : ℕ := (slot (cmM true) 0).view.dmaCredit
theorem N_pos : 0 < N := View.dmaCredit_pos _ (by decide)
theorem credit_src (d : Bool) (j : Fin 14) : (srcM d j).view.dmaCredit = N := by
  fin_cases j <;> cases d <;> rfl
theorem credit_dst (d : Bool) (j : Fin 14) : (dstM d j).view.dmaCredit = N := by
  fin_cases j <;> cases d <;> rfl

/-! ## The staged inputs -/

/-- The inputs as the pipeline stages them on device `c`: tokens, router, routing indices, the device's four experts. -/
def xstg (c : Dev nD) : (cc0_stg0_0 : Ref sig .tc).ty.Contents (Elt F) :=
  (win0_0.blk (0 : Fin 1)).view.read (Elt F) (m ((c : Thread nD τ).loc main_arg0))
def rwstg (c : Dev nD) : (cc0_stg1_0 : Ref sig .tc).ty.Contents (Elt F) :=
  (win0_1.blk (0 : Fin 1)).view.read (Elt F) (m ((c : Thread nD τ).loc main_arg1))
def ixstg (c : Dev nD) : (cc0_stg2_0 : Ref sig .tc).ty.Contents (Elt F) :=
  (win0_2.blk (0 : Fin 1)).view.read (Elt F) (m ((c : Thread nD τ).loc main_arg2))
def ewstg (c : Dev nD) : (cc0_stg3_0 : Ref sig .tc).ty.Contents (Elt F) :=
  (win0_3.blk (0 : Fin 1)).view.read (Elt F) (m ((c : Thread nD τ).loc main_arg3))

/-! ## One tile of one device's partial output -/

section Half

/-- The exponentials of the router's scores of 128 tokens, each row shifted by its maximum. -/
def hScores (x : Vec F S128x512 .f32) (rw : Vec F S512x32 .f32) : FVec F S128x32 .f32 :=
  let sc : FVec F S128x32 .f32 := matmul dot_S128x512_S512x32_S128x32_1_0_0_1_n_n none
    (shapeCast S128x512 x shapeCasts_S128x512_S128x512) (shapeCast S512x32 rw shapeCasts_S512x32_S512x32)
    (constant S128x32 .f32 0x00000000#32)
  exp (subf sc (broadcastTo S128x32 (shapeCast S128x1
    (multiReduction .maximumf [1] S128 sc 0xFF800000#32 reduces_S128x32_S128 (.inl rfl) rfl) shapeCasts_S128_S128x1) broadcasts_S128x1_S128x32))

/-- The entry of each row that the row's index names. -/
def hPick (e : Vec F S128x1 .i32) (p : FVec F S128x32 .f32) : FVec F S128x1 .f32 :=
  shapeCast S128x1 (multiReduction .add [1] S128
    (select (cmpi .eq (iota .tc S128x32 32 [1] iota_S128x32_d1_w32)
        (broadcastTo S128x32 (shapeCast S128x1 e shapeCasts_S128x1_S128x1 : IVec S128x1 32) broadcasts_S128x1_S128x32))
      p (broadcast S128x32 (Scalar.ofBits .f32 0x00000000#32)))
    0x00000000#32 reduces_S128x32_S128 (.inl rfl) rfl) shapeCasts_S128_S128x1

/-- Expert `ge`'s gate for each token: the token's two weights where its two indices name the expert. -/
def hGate (ge : BitVec 32) (e0 e1 : Vec F S128x1 .i32) (g0 g1 : FVec F S128x1 .f32) : FVec F S128x1 .f32 :=
  addf
    (select (cmpi .eq (shapeCast S128x1 e0 shapeCasts_S128x1_S128x1 : IVec S128x1 32) (broadcast S128x1 ge)) g0
      (broadcast S128x1 (Scalar.ofBits .f32 0x00000000#32)))
    (select (cmpi .eq (shapeCast S128x1 e1 shapeCasts_S128x1_S128x1 : IVec S128x1 32) (broadcast S128x1 ge)) g1
      (broadcast S128x1 (Scalar.ofBits .f32 0x00000000#32)))

/-- One expert's product: the gated tokens times the expert's matrix. -/
def hTerm (x : Vec F S128x512 .f32) (g : FVec F S128x1 .f32) (w : Vec F S1x512x1024 .f32) : FVec F S128x1024 .f32 :=
  matmul dot_S128x512_S512x1024_S128x1024_1_0_0_1_n_n none
    (mulf (shapeCast S128x512 x shapeCasts_S128x512_S128x512) (broadcastTo S128x512 g broadcasts_S128x1_S128x512))
    (shapeCast S512x1024 w shapeCasts_S1x512x1024_S512x1024) (constant S128x1024 .f32 0x00000000#32)

/-- A tile of a device's partial output: over its four experts `base … base + 3`, the gated products summed. -/
def half (base : BitVec 32) (x : Vec F S128x512 .f32) (e0 e1 : Vec F S128x1 .i32) (rw : Vec F S512x32 .f32)
    (w0 w1 w2 w3 : Vec F S1x512x1024 .f32) : FVec F S128x1024 .f32 :=
  let p := hScores x rw
  let p0 := hPick e0 p
  let p1 := hPick e1 p
  let g0 := divf p0 (addf p0 p1)
  let g1 := divf p1 (addf p0 p1)
  addf (addf (addf (addf (broadcast S128x1024 (Scalar.ofBits .f32 0x00000000#32))
    (hTerm x (hGate (Scalar.addi base 0#32) e0 e1 g0 g1) w0))
    (hTerm x (hGate (Scalar.addi base 1#32) e0 e1 g0 g1) w1))
    (hTerm x (hGate (Scalar.addi base 2#32) e0 e1 g0 g1) w2))
    (hTerm x (hGate (Scalar.addi base 3#32) e0 e1 g0 g1) w3)

end Half

/-- The first of device `c`'s four experts. -/
def baseW (c : Dev nD) : BitVec 32 := Scalar.muli (Scalar.remsi (Scalar.divsi (Dev.word c) 1#32) 8#32) 4#32

/-! The tiles' rectangles in the staged arrays. -/

theorem xR_inb (h : Fin 16) : ∀ a, (![128 * h.val, 0] : Fin 2 → ℕ) a + S128x512.size a ≤ S2048x512.size a := by
  intro a; have := h.isLt; fin_cases a <;> simp [Shape.size] <;> omega
theorem i0R_inb (h : Fin 16) : ∀ a, (![128 * h.val, 0] : Fin 2 → ℕ) a + S128x1.size a ≤ S2048x2.size a := by
  intro a; have := h.isLt; fin_cases a <;> simp [Shape.size] <;> omega
theorem i1R_inb (h : Fin 16) : ∀ a, (![128 * h.val, 1] : Fin 2 → ℕ) a + S128x1.size a ≤ S2048x2.size a := by
  intro a; have := h.isLt; fin_cases a <;> simp [Shape.size] <;> omega
theorem oR_inb (h : Fin 16) : ∀ a, (![128 * h.val, 0] : Fin 2 → ℕ) a + S128x1024.size a ≤ S2048x1024.size a := by
  intro a; have := h.isLt; fin_cases a <;> simp [Shape.size] <;> omega

abbrev xR (h : Fin 16) : Rect S2048x512 := Rect.unit (s := S2048x512) ![128 * h.val, 0] S128x512.size (xR_inb h)
abbrev i0R (h : Fin 16) : Rect S2048x2 := Rect.unit (s := S2048x2) ![128 * h.val, 0] S128x1.size (i0R_inb h)
abbrev i1R (h : Fin 16) : Rect S2048x2 := Rect.unit (s := S2048x2) ![128 * h.val, 1] S128x1.size (i1R_inb h)
abbrev oR (h : Fin 16) : Rect S2048x1024 := Rect.unit (s := S2048x1024) ![128 * h.val, 0] S128x1024.size (oR_inb h)
abbrev rwR : Rect S512x32 := Rect.unit (s := S512x32) ![0, 0] S512x32.size inb_S512x32_S512x32_0_0
abbrev ewR0 : Rect S4x512x1024 := Rect.unit (s := S4x512x1024) ![0, 0, 0] S1x512x1024.size inb_S4x512x1024_S1x512x1024_0_0_0
abbrev ewR1 : Rect S4x512x1024 := Rect.unit (s := S4x512x1024) ![1, 0, 0] S1x512x1024.size inb_S4x512x1024_S1x512x1024_1_0_0
abbrev ewR2 : Rect S4x512x1024 := Rect.unit (s := S4x512x1024) ![2, 0, 0] S1x512x1024.size inb_S4x512x1024_S1x512x1024_2_0_0
abbrev ewR3 : Rect S4x512x1024 := Rect.unit (s := S4x512x1024) ![3, 0, 0] S1x512x1024.size inb_S4x512x1024_S1x512x1024_3_0_0

/-! What the loads of one tile read. -/

def xT (c : Dev nD) (h : Fin 16) : Vec F S128x512 .f32 := xM.view.readAt (Elt F) (xR h).toLoadRect (xstg m c)
def i0T (c : Dev nD) (h : Fin 16) : Vec F S128x1 .i32 := ixM.view.readAt (Elt F) (i0R h).toLoadRect (ixstg m c)
def i1T (c : Dev nD) (h : Fin 16) : Vec F S128x1 .i32 := ixM.view.readAt (Elt F) (i1R h).toLoadRect (ixstg m c)
def rwT (c : Dev nD) : Vec F S512x32 .f32 := rwM.view.readAt (Elt F) rwR.toLoadRect (rwstg m c)
def ewT0 (c : Dev nD) : Vec F S1x512x1024 .f32 := ewM.view.readAt (Elt F) ewR0.toLoadRect (ewstg m c)
def ewT1 (c : Dev nD) : Vec F S1x512x1024 .f32 := ewM.view.readAt (Elt F) ewR1.toLoadRect (ewstg m c)
def ewT2 (c : Dev nD) : Vec F S1x512x1024 .f32 := ewM.view.readAt (Elt F) ewR2.toLoadRect (ewstg m c)
def ewT3 (c : Dev nD) : Vec F S1x512x1024 .f32 := ewM.view.readAt (Elt F) ewR3.toLoadRect (ewstg m c)

/-- Device `c`'s own part of the tile it meets at step `s` of direction `d`. -/
def CH (c : Dev nD) (d : Bool) (s : ℕ) : FVec F S128x1024 .f32 :=
  half (baseW c) (xT m c (tidx c d s)) (i0T m c (tidx c d s)) (i1T m c (tidx c d s)) (rwT m c) (ewT0 m c) (ewT1 m c) (ewT2 m c) (ewT3 m c)

/-! ## The transfers' contents -/

/-- Rounding to the transfers' narrow type, and back. -/
abbrev nar (v : FVec F S128x1024 .f32) : FVec F S128x1024 .bf16 := truncf .bf16 v bitsLt_bf16_f32
abbrev wid (v : FVec F S128x1024 .bf16) : FVec F S128x1024 .f32 := extf .f32 v bitsLt_bf16_f32
/-- A tile with a leading unit axis, and without. -/
abbrev up (v : FVec F S128x1024 .bf16) : FVec F S1x128x1024 .bf16 := shapeCast S1x128x1024 v shapeCasts_S128x1024_S1x128x1024
abbrev dn (v : FVec F S1x128x1024 .bf16) : FVec F S128x1024 .bf16 := shapeCast S128x1024 v shapeCasts_S1x128x1024_S128x1024

/-- What transfer `j` of direction `d` carries from device `c`. -/
def VV (d : Bool) : ℕ → Dev nD → FVec F S128x1024 .bf16
  | 0, c => nar (CH m c d 0)
  | j + 1, c => if j < 7 then nar (addf (CH m c d (j + 1)) (wid (VV d j (nbr (!d) c)))) else VV d j (nbr (!d) c)

/-- Device `c`'s sum at step `j + 1`: its own part and what has arrived. -/
def VF (d : Bool) (j : ℕ) (c : Dev nD) : FVec F S128x1024 .f32 := addf (CH m c d (j + 1)) (wid (VV m d j (nbr (!d) c)))

theorem VV_succ_lt (d : Bool) (j : ℕ) (h : j < 7) (c : Dev nD) : VV m d (j + 1) c = nar (VF m d j c) := by
  unfold VF; rw [VV]; exact if_pos h
theorem VV_succ_ge (d : Bool) (j : ℕ) (h : 7 ≤ j) (c : Dev nD) : VV m d (j + 1) c = VV m d j (nbr (!d) c) := by
  rw [VV]; exact if_neg (by omega)

end Cert.Proof

end
-- ==== Proof.Schedule.lean ====
/-
  The protocol. Every transfer credits two semaphores: the sender's when its source has been read, the receiver's when it
  has landed. Before its first transfer each device signals both neighbours' barrier semaphore, handing each of them all the
  landing tiles that neighbour will write, and waits for the two signals of its own. Per semaphore: who pays it, how much,
  and what it hands its owner (`ringRd`); what a device owes at each moment (`owed`); levels under which every wait is below
  everything its device then owes (`lv`).
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads -/

/-- The share of its source that a transfer reads: a tile that the device also reads itself while it travels on
    (the all-gather's) is lent by half. -/
def shr (j : Fin 14) : PosShare TreeShare := if j.val < 8 then fullShare else fullShare.right

/-- A tile buffer of device `c` at given contents, and at any. -/
abbrev tileAt (c : Dev nD) (M : Memref sig .tc .vmem S128x1024 .bf16) (q : PosShare TreeShare) (X : FVec F S128x1024 .bf16) : sProp 𝕄 :=
  owns (Ix := Unit) (Name := ℕ) (U := UU) (Lvl := ℕ) (Val := Elt F) (c : Thread nD τ) M q X
def tileAny (c : Dev nD) (M : Memref sig .tc .vmem S128x1024 .bf16) : sProp 𝕄 := iprop(∃ X : FVec F S128x1024 .bf16, tileAt c M fullShare X)

/-- What a neighbour's barrier signal hands `c`: every landing tile of that neighbour's, to write into. -/
def barPay (c : Dev nD) (d : Bool) : sProp 𝕄 := bigSep Finset.univ fun j : Fin 14 => tileAny (F := F) (nbr d c) (dstM d j)
/-- What the read-out of `c`'s transfer hands back: the source. -/
def sendPay (c : Dev nD) (p : CP) : sProp 𝕄 := tileAt c (srcM p.1 p.2) (shr p.2) (VV m p.1 p.2.val c)
/-- What a landing hands `c`: its landing tile with the sender's contents. -/
def recvPay (c : Dev nD) (p : CP) : sProp 𝕄 := tileAt c (dstM p.1 p.2) fullShare (VV m p.1 p.2.val (nbr (!p.1) c))

instance tileAny_storable (c : Dev nD) (M) : BI.Storable (upEmb : UEmb _ 𝕄) (tileAny (F := F) c M) := by unfold tileAny; infer_instance
instance barPay_storable (c : Dev nD) (d : Bool) : BI.Storable (upEmb : UEmb _ 𝕄) (barPay (F := F) c d) := by unfold barPay; infer_instance
instance sendPay_storable (c : Dev nD) (p : CP) : BI.Storable (upEmb : UEmb _ 𝕄) (sendPay (F := F) m c p) := by unfold sendPay; infer_instance
instance recvPay_storable (c : Dev nD) (p : CP) : BI.Storable (upEmb : UEmb _ 𝕄) (recvPay (F := F) m c p) := by unfold recvPay; infer_instance

/-! ## The schedule: one round; a barrier cell has a duty per direction, a transfer's cell one duty -/

/-- The duties of a semaphore's round. -/
def dutySet : SemLoc sig → Finset Bool
  | .reg s => if s = barS then Finset.univ else ∅
  | .dma s => if 5 ≤ s.val then {false} else ∅
/-- The units of a duty. -/
def amt : SemLoc sig → ℕ
  | .reg _ => 1
  | .dma _ => N
/-- What the duty `d` of device `c`'s semaphore hands it. -/
def pay (c : Dev nD) (d : Bool) : SemLoc sig → sProp 𝕄
  | .reg _ => barPay c d
  | .dma s => if (decode s).1 then recvPay m c (decode s).2 else sendPay m c (decode s).2

def ringRd : Rounds.Schedule (GSem nD τ sig) Bool 𝕄 where
  duties g r := if r = 0 ∧ g.1.2 = .tc then dutySet g.2 else ∅
  unitless _ := False
  amount g _ _ := amt g.2
  payload g _ d := pay m g.1.1 d g.2
  amount_pos g _ _ _ := by
    rcases g with ⟨_, s | s⟩
    · exact Nat.one_pos
    · exact N_pos

instance pay_storable (c : Dev nD) (d : Bool) (s : SemLoc sig) : BI.Storable (upEmb : UEmb _ 𝕄) (pay (F := F) m c d s) := by
  cases s with
  | reg s => unfold pay; infer_instance
  | dma s =>
    show BI.Storable upEmb (if (decode s).1 then recvPay m c (decode s).2 else sendPay m c (decode s).2)
    by_cases h : (decode s).1
    · rw [if_pos h]; infer_instance
    · rw [if_neg h]; infer_instance

instance ringRd_payload_storable (g : GSem nD τ sig) (r : ℕ) (d : Bool) : BI.Storable (upEmb : UEmb _ 𝕄) ((ringRd (F := F) m).payload g r d) := by
  show BI.Storable upEmb (pay m g.1.1 d g.2)
  infer_instance

section Sched
variable (c : Dev nD) (p : CP)

theorem duties_bar : (ringRd (F := F) m).duties (barCell c) 0 = Finset.univ := by
  dsimp only [ringRd]; rw [if_pos ⟨rfl, rfl⟩]; unfold dutySet; exact if_pos rfl
theorem duties_send : (ringRd (F := F) m).duties (sendCell p c) 0 = {false} := by
  dsimp only [ringRd]; rw [if_pos ⟨rfl, rfl⟩]; unfold dutySet; exact if_pos (xsem_ge (false, p))
theorem duties_recv : (ringRd (F := F) m).duties (recvCell p c) 0 = {false} := by
  dsimp only [ringRd]; rw [if_pos ⟨rfl, rfl⟩]; unfold dutySet; exact if_pos (xsem_ge (true, p))
theorem duties_later (g : GSem nD τ sig) : ∀ r, 1 ≤ r → (ringRd (F := F) m).duties g r = ∅ :=
  fun r hr => by dsimp only [ringRd]; exact if_neg fun h => by omega

theorem amount_bar (d : Bool) : (ringRd (F := F) m).amount (barCell c) 0 d = 1 := rfl
theorem amount_send (d : Bool) : (ringRd (F := F) m).amount (sendCell p c) 0 d = N := rfl
theorem amount_recv (d : Bool) : (ringRd (F := F) m).amount (recvCell p c) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell p c) 0 = N := by
  unfold Schedule.expect Schedule.amountOf; rw [duties_send, Finset.sum_singleton, amount_send]
theorem expect_recv : (ringRd (F := F) m).expect (recvCell p c) 0 = N := by
  unfold Schedule.expect Schedule.amountOf; rw [duties_recv, Finset.sum_singleton, amount_recv]

theorem payload_bar (d : Bool) : (ringRd (F := F) m).payload (barCell c) 0 d = barPay c d := rfl
theorem payload_send (d : Bool) : (ringRd (F := F) m).payload (sendCell p c) 0 d = sendPay m c p := by
  show pay m c d (.dma (xsem false p.1 p.2)) = _
  have e := decode_xsem (false, p); dsimp only at e; unfold pay; dsimp only; rw [e]; exact if_neg Bool.false_ne_true
theorem payload_recv (d : Bool) : (ringRd (F := F) m).payload (recvCell p c) 0 d = recvPay m c p := by
  show pay m c d (.dma (xsem true p.1 p.2)) = _
  have e := decode_xsem (true, p); dsimp only at e; unfold pay; dsimp only; rw [e]; exact if_pos rfl

theorem rest_bar : bigSep ((ringRd (F := F) m).duties (barCell c) 0 \ ∅) (fun d => (ringRd (F := F) m).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]; rfl
theorem rest_send : bigSep ((ringRd (F := F) m).duties (sendCell p c) 0 \ ∅) (fun d => (ringRd (F := F) m).payload (sendCell p c) 0 d) = sendPay m c p := by
  rw [Finset.sdiff_empty, duties_send, bigSep_singleton, payload_send]
theorem rest_recv : bigSep ((ringRd (F := F) m).duties (recvCell p c) 0 \ ∅) (fun d => (ringRd (F := F) m).payload (recvCell p c) 0 d) = recvPay m c p := by
  rw [Finset.sdiff_empty, duties_recv, bigSep_singleton, payload_recv]

end Sched

/-! ## Progress, what is owed, the levels

In one direction a device's transfers follow each other: transfer `j` has its source stored, is started, its read-out is
waited for, its landing is waited for, in this order, before transfer `j + 1`'s source is stored. So the state of all
fourteen is ONE number, `t = 4 j + e`: `e` of transfer `j`'s four events are done, all of the earlier ones', none of the
later ones'. -/

/-- Transfer `j`'s own phase when the direction's progress is `t`: 0 untouched, 1 source stored, 2 started, 3 read out,
    4 landed, 5 landed and half of the landing tile lent to the next transfer (all-gather only). -/
def ph (t : ℕ) (j : Fin 14) : ℕ := if 7 ≤ j.val ∧ j.val < 13 ∧ 4 * j.val + 6 ≤ t then 5 else min (t - 4 * j.val) 4

/-- What device `c` still owes: the landings of the transfers it has not started. -/
def owed (c : Dev nD) (t : Bool → ℕ) : CellTallies nD τ sig Unit :=
  ∑ p : CP, if t p.1 < 4 * p.2.val + 2 then tallyAt (recvCell p (nbr p.1 c)) () N else 0

/-- What it owes at launch: those, and a signal to both neighbours' barriers. -/
def O₁ (c : Dev nD) : CellTallies nD τ sig Unit := owed c (fun _ => 0) + tallyAt (barCell (nbr true c)) () 1
def O₀ (c : Dev nD) : CellTallies nD τ sig Unit := O₁ c + tallyAt (barCell (nbr false c)) () 1

def L (g : GSem nD τ sig) : Finset Unit := if g.1.2 = .tc then {()} else ∅
/-- A transfer's level: later transfers higher, the right direction's below the left's. -/
def plv (d : Bool) (j : ℕ) : ℕ := 2 + 2 * j + (if d then 0 else 1)
def slv : SemLoc sig → ℕ
  | .reg _ => 1
  | .dma s => if s.val < 5 then 0 else if (decode s).1 then plv (decode s).2.1 (decode s).2.2.val else 0
/-- Receive cells by transfer, barrier cells at 1, everything else at 0. -/
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem slv_recv (p : CP) : slv (osem (true, p)) = plv p.1 p.2.val := by
  show slv (.dma (xsem true p.1 p.2)) = _
  have e := decode_xsem (true, p); have e' := xsem_ge (true, p); dsimp only at e e'
  unfold slv; dsimp only
  rw [if_neg (by omega), e]
  exact if_pos rfl
theorem slv_send (p : CP) : slv (osem (false, p)) = 0 := by
  show slv (.dma (xsem false p.1 p.2)) = _
  have e := decode_xsem (false, p); have e' := xsem_ge (false, p); dsimp only at e e'
  unfold slv; dsimp only
  rw [if_neg (by omega), e]
  exact if_neg Bool.false_ne_true

theorem owed_pos {c : Dev nD} {t : Bool → ℕ} {g : GSem nD τ sig} {u : Unit} (h : 0 < owed c t g u) :
    ∃ p : CP, t p.1 < 4 * p.2.val + 2 ∧ g = recvCell p (nbr p.1 c) := by
  by_contra hn
  push Not at hn
  have : owed c t g u = 0 := by
    unfold owed
    rw [Finset.sum_apply, Finsupp.finset_sum_apply]
    refine Finset.sum_eq_zero fun p _ => ?_
    split
    · next hp => rw [tallyAt_apply, if_neg fun h' => hn p hp h'.1]
    · rfl
  omega

theorem O₀_pos {c : Dev nD} {g : GSem nD τ sig} {u : Unit} (h : 0 < O₀ c g u) :
    (∃ p : CP, g = recvCell p (nbr p.1 c)) ∨ ∃ d, g = barCell (nbr d c) := by
  by_contra hn
  rw [not_or] at hn
  obtain ⟨hn1, hn2⟩ := hn
  push Not at hn1 hn2
  unfold O₀ O₁ at h
  rw [Pi.add_apply, Finsupp.add_apply, Pi.add_apply, Finsupp.add_apply, tallyAt_apply, tallyAt_apply,
    if_neg fun h' => hn2 _ h'.1, if_neg fun h' => hn2 _ h'.1] at h
  obtain ⟨p, -, hp⟩ := owed_pos (c := c) (t := fun _ => 0) (g := g) (u := u) (by omega)
  exact hn1 p hp

/-- A wait below everything owed. -/
theorem mayWait_of (c : Dev nD) (sm : SemLoc sig) (t : Bool → ℕ) (h : ∀ p : CP, t p.1 < 4 * p.2.val + 2 → slv sm < plv p.1 p.2.val) :
    (levAts L lv : sProp 𝕄) ⊢ MayWait (c : Thread nD τ) sm () (owed c t) :=
  MayOwe.of_cut (L := L) (lev := lv) (slv sm) (fun p hp => by rw [Finset.mem_singleton.mp hp, L_tc]; exact Finset.mem_singleton_self _)
    (fun g u hg => by obtain ⟨p, -, rfl⟩ := owed_pos hg; exact Finset.mem_singleton_self _)
    (fun p hp => by rw [Finset.mem_singleton.mp hp]; exact le_rfl)
    (fun g u hg => by
      obtain ⟨p, hp, rfl⟩ := owed_pos hg
      have := h p hp
      rw [← slv_recv p] at this
      exact this)

/-- The pipeline's staging semaphores lie below everything. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨d, rfl⟩ <;> exact Finset.mem_singleton_self _)
      (fun p hp => by
        rw [Finset.mem_singleton.mp hp]; show slv (.dma q) ≤ 0
        unfold slv; dsimp only; rw [if_pos hq])
      (fun g u hg => by
        rcases O₀_pos hg with ⟨p, rfl⟩ | ⟨d, rfl⟩
        · show 0 < slv (osem (true, p)); rw [slv_recv]; unfold plv; omega
        · exact Nat.one_pos)
  · rw [MayWait_zero]; iintro -; iempintro

theorem owed_start (c : Dev nD) (d : Bool) (j : Fin 14) (t t' : Bool → ℕ) (h : t d < 4 * j.val + 2) (h0 : 4 * j.val ≤ t d) (h' : t' d = 4 * j.val + 2)
    (ho : t' (!d) = t (!d)) : owed c t = owed c t' + tallyAt (recvCell (d, j) (nbr d c)) () N := by
  unfold owed
  rw [← Finset.sum_erase_add _ _ (Finset.mem_univ ((d, j) : CP)), ← Finset.sum_erase_add (a := ((d, j) : CP)) _ _ (Finset.mem_univ _)]
  rw [if_pos h, if_neg (by simp only; omega), add_zero]
  congr 1
  refine Finset.sum_congr rfl fun p hp => ?_
  have hne := Finset.ne_of_mem_erase hp
  obtain ⟨d', j'⟩ := p
  simp only
  by_cases hd : d' = d
  · subst hd
    have hj : j'.val ≠ j.val := fun e => hne (by rw [Fin.ext e])
    by_cases hlt : j'.val < j.val
    · rw [if_neg (by omega), if_neg (by omega)]
    · rw [if_pos (by omega), if_pos (by omega)]
  · have : d' = !d := by cases d <;> cases d' <;> simp_all
    subst this; rw [ho]

theorem owed_same (c : Dev nD) (d : Bool) (j : Fin 14) (e : ℕ) (he : e = 0 ∨ e = 2 ∨ e = 3) (t t' : Bool → ℕ) (h : t d = 4 * j.val + e)
    (h' : t' d = t d + 1) (ho : t' (!d) = t (!d)) : owed c t' = owed c t := by
  unfold owed
  refine Finset.sum_congr rfl fun p hp => ?_
  obtain ⟨d', j'⟩ := p
  simp only
  by_cases hd : d' = d
  · subst hd
    by_cases hlt : t d' < 4 * j'.val + 2
    · rw [if_pos hlt, if_pos (by omega)]
    · rw [if_neg hlt, if_neg (by omega)]
  · have : d' = !d := by cases d <;> cases d' <;> simp_all
    subst this; rw [ho]

/-- Progress in transfer `j` leaves the others' phases. -/
theorem ph_other (d : Bool) (j : Fin 14) (e : ℕ) (he : e < 4) (hl : e = 1 → j.val < 8) (t t' : Bool → ℕ) (h : t d = 4 * j.val + e)
    (h' : t' d = t d + 1) (ho : t' (!d) = t (!d)) (p : CP) (hp : p ≠ (d, j)) : ph (t' p.1) p.2 = ph (t p.1) p.2 := by
  obtain ⟨d', j'⟩ := p
  simp only
  by_cases hd : d' = d
  · subst hd
    have hj : j'.val ≠ j.val := fun e => hp (by rw [Fin.ext e])
    unfold ph
    split <;> split <;> omega
  · have : d' = !d := by cases d <;> cases d' <;> simp_all
    subst this; rw [ho]

/-- Starting an all-gather transfer moves its own phase and its predecessor's. -/
theorem ph_other₂ (d : Bool) (j j' : Fin 14) (hj : 7 ≤ j.val) (hjj : j'.val = j.val + 1) (t t' : Bool → ℕ) (h : t d = 4 * j'.val)
    (h' : t' d = t d + 2) (ho : t' (!d) = t (!d)) (p : CP) (hp : p ≠ (d, j)) (hp' : p ≠ (d, j')) : ph (t' p.1) p.2 = ph (t p.1) p.2 := by
  obtain ⟨d', i⟩ := p
  simp only
  by_cases hd : d' = d
  · subst hd
    have hj1 : i.val ≠ j.val := fun e => hp (by rw [Fin.ext e])
    have hj2 : i.val ≠ j'.val := fun e => hp' (by rw [Fin.ext e])
    unfold ph
    split <;> split <;> omega
  · have : d' = !d := by cases d <;> cases d' <;> simp_all
    subst this; rw [ho]

end Cert.Proof

end
-- ==== Proof.Tiles.lean ====
/-
  Loads and stores of one tile: of a buffer of tiles, of the result, of the staged inputs.
-/
module

public import proofs.«01_k».proof.Proof.Schedule

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev wpc (c : Dev nD) {α : Type} (prog : Prog (TpuEff nD τ sig (Elt F) Λ₀ .tc) α) (Q : α → sProp 𝕄) : sProp 𝕄 :=
  wp frame (wpE (defs₀ (F := F)) 𝒱₀ (c : Thread nD τ) none) Set.univ prog Q

/-! ## One tile of a buffer of tiles -/

section Slot
variable {n : ℕ} (M : Memref sig .tc .vmem (Sn n) .bf16) (k : Fin n) (c : Dev nD)

theorem slot_set : (slot M k).view.set = (M.access (slotR k)).set := View.set_reshape _ _

theorem slot_read (f : M.view.ty.Contents (Elt F)) :
    (slot M k).view.read (Elt F) f = dn ((M.access (slotR k)).read (Elt F) f) := rfl

theorem up_dn (v : FVec F S1x128x1024 .bf16) : up (dn v) = v := shapeCast_shapeCast v _ _
theorem dn_up (v : FVec F S128x1024 .bf16) : dn (up v) = v := shapeCast_shapeCast v _ _

theorem slot_load {α : Type} {Q : α → sProp 𝕄} (q : PosShare TreeShare) (X : FVec F S128x1024 .bf16)
    {l : M.view.LoadsAt (slotR k).toLoadRect} {kk : Vec F S1x128x1024 .bf16 → Prog (TpuEff nD τ sig (Elt F) Λ₀ .tc) α} :
    tileAt c (slot M k) q X ⊢ iprop((tileAt c (slot M k) q X -∗ wpc c (kk (up X)) Q) -∗ wpc c (.op (.load M (slotR k).toLoadRect l) kk) Q) := by
  unfold tileAt owns wpc
  iintro ⟨%f, %hf, Hp⟩
  have e : (M.access (slotR k)).read (Elt F) f = up X := by rw [← hf, slot_read, up_dn]
  iintro Hk
  rw [← e]
  iapply (wp_load_rect 𝒱₀ (c : Thread nD τ) none Set.univ (m := M) (r := slotR k) (f := f) (S := (slot M k).view.set) (subset_of_eq (slot_set M k).symm)) $$ [Hp]
  · iexact Hp
  iintro Hp
  iapply Hk
  iexists f
  isplitr
  · ipureintro; exact hf
  iexact Hp

theorem slot_store {α : Type} {Q : α → sProp 𝕄} (X : FVec F S128x1024 .bf16) (Y : Vec F S1x128x1024 .bf16)
    {l : (M.access (slotR k)).Stores Finset.univ} {l'} {kk : PUnit → Prog (TpuEff nD τ sig (Elt F) Λ₀ .tc) α} :
    tileAt c (slot M k) fullShare X ⊢ iprop((tileAt c (slot M k) fullShare (dn Y) -∗ wpc c (kk ⟨⟩) Q)
      -∗ wpc c (.op (.store M (slotR k) Y Finset.univ l l') kk) Q) := by
  unfold tileAt owns wpc
  iintro ⟨%f, %hf, Hp⟩ Hk
  iapply (wp_store 𝒱₀ (c : Thread nD τ) none Set.univ (m := M) (r := slotR k) (f := f) (S := (slot M k).view.set) (subset_of_eq (slot_set M k).symm)) $$ [Hp]
  · iexact Hp
  iintro Hp
  iapply Hk
  iexists (M.access (slotR k)).write (Elt F) f Y Finset.univ
  isplitr
  · ipureintro; rw [slot_read, View.read_write_univ]
  iexact Hp

end Slot

/-! ## The result's sixteen tiles -/

section Out
variable (c : Dev nD)

abbrev Tile : Type := FVec F S128x1024 .f32
abbrev outPts (f : (cc0_stg4_0 : Ref sig .tc).ty.Contents (Elt F)) : sProp 𝕄 := ((c : Thread nD τ).loc cc0_stg4_0) ↦{fullShare} f
def oTile (f : (cc0_stg4_0 : Ref sig .tc).ty.Contents (Elt F)) (h : Fin 16) : FVec F S128x1024 .f32 := outM.view.readAt (Elt F) (oR h).toLoadRect f

/-- The result's buffer with known contents on the tiles, by direction and step. -/
def Out (O : Bool × Fin 8 → FVec F S128x1024 .f32) : sProp 𝕄 :=
  iprop(∃ f : (cc0_stg4_0 : Ref sig .tc).ty.Contents (Elt F), ⌜∀ p, oTile f (tidx c p.1 p.2.val) = O p⌝ ∗ outPts c f)

theorem oR_disj {h h' : Fin 16} (hne : h ≠ h') : Disjoint (outM.access (oR h) : View sig .tc _ _ _).set ((outM.access (oR h') : View sig .tc _ _ _).setOn Finset.univ) := by
  show Disjoint (outM.access (oR h) : View sig .tc _ _ _).set (outM.access (oR h') : View sig .tc _ _ _).set
  rw [View.set_slice, View.set_slice, Finset.disjoint_map]
  rw [Finset.disjoint_left]
  intro i hi hi'
  rw [Rect.mem_set_unit] at hi hi'
  have h0 := hi 0; have h1 := hi' 0
  simp [Shape.size] at h0 h1
  exact hne (Fin.ext (by omega))

theorem oTile_write (f : (cc0_stg4_0 : Ref sig .tc).ty.Contents (Elt F)) (h : Fin 16) (w : FVec F S128x1024 .f32) :
    oTile ((outM.access (oR h) : View sig .tc _ _ _).write (Elt F) f w Finset.univ) h = w := by
  have e := View.read_write_univ (v := (outM.access (oR h) : View sig .tc _ _ _)) (Val := Elt F) f w
  unfold oTile
  rw [View.readAt_rect]
  exact e
theorem oTile_write_ne (f : (cc0_stg4_0 : Ref sig .tc).ty.Contents (Elt F)) {h h' : Fin 16} (hne : h' ≠ h) (w : FVec F S128x1024 .f32) :
    oTile ((outM.access (oR h) : View sig .tc _ _ _).write (Elt F) f w Finset.univ) h' = oTile f h' := by
  have e := View.read_slice_write_slice_of_disjoint (v := (outM : Memref sig .tc .vmem _ _).view) (Val := Elt F) (oR h') (oR h) f w Finset.univ (oR_disj hne)
  unfold oTile
  rw [View.readAt_rect, View.readAt_rect]
  exact e

theorem out_load {α : Type} {Q : α → sProp 𝕄} {O : Bool × Fin 8 → FVec F S128x1024 .f32} (d : Bool) (s : Fin 8)
    {o : Fin 2 → ℕ} {n} (ho : o = ![128 * (tidx c d s.val).val, 0])
    {l : (outM : Memref sig .tc .vmem _ _).view.LoadsAt (Rect.unit (s := S2048x1024) o S128x1024.size n).toLoadRect}
    {kk : Vec F S128x1024 .f32 → Prog (TpuEff nD τ sig (Elt F) Λ₀ .tc) α} :
    Out c O ⊢ iprop((Out c O -∗ wpc c (kk (O (d, s))) Q) -∗ wpc c (.op (.load outM (Rect.unit (s := S2048x1024) o S128x1024.size n).toLoadRect l) kk) Q) := by
  subst ho
  unfold Out wpc
  iintro ⟨%f, %hf, Hp⟩ Hk
  rw [← hf (d, s)]
  iapply (wp_load 𝒱₀ (c : Thread nD τ) none Set.univ (m := outM) (f := f) (Finset.subset_univ _)) $$ [Hp]
  · iexact Hp
  iintro Hp
  iapply Hk
  iexists f
  isplitr
  · ipureintro; exact hf
  iexact Hp

theorem out_store {α : Type} {Q : α → sProp 𝕄} {O : Bool × Fin 8 → FVec F S128x1024 .f32} (d : Bool) (s : Fin 8)
    {o : Fin 2 → ℕ} {n} (ho : o = ![128 * (tidx c d s.val).val, 0]) {w : Vec F S128x1024 .f32}
    {l : ((outM : Memref sig .tc .vmem _ _).access (Rect.unit (s := S2048x1024) o S128x1024.size n)).Stores Finset.univ} {l'}
    {kk : PUnit → Prog (TpuEff nD τ sig (Elt F) Λ₀ .tc) α} :
    Out c O ⊢ iprop((Out c (Function.update O (d, s) w) -∗ wpc c (kk ⟨⟩) Q)
      -∗ wpc c (.op (.store outM (Rect.unit (s := S2048x1024) o S128x1024.size n) w Finset.univ l l') kk) Q) := by
  subst ho
  unfold Out wpc
  iintro ⟨%f, %hf, Hp⟩ Hk
  iapply (wp_store 𝒱₀ (c : Thread nD τ) none Set.univ (m := outM) (f := f) (Finset.subset_univ _)) $$ [Hp]
  · iexact Hp
  iintro Hp
  iapply Hk
  iexists (outM.access (oR (tidx c d s.val)) : View sig .tc _ _ _).write (Elt F) f w Finset.univ
  isplitr
  · ipureintro
    rintro ⟨d', s'⟩
    by_cases h : (d', s') = (d, s)
    · obtain ⟨rfl, rfl⟩ := Prod.mk.inj h
      rw [Function.update_self]
      exact oTile_write f _ w
    · rw [Function.update_of_ne h, ← hf (d', s')]
      refine oTile_write_ne f (fun e => h ?_) w
      obtain ⟨h1, h2⟩ := tidx_inj c e
      dsimp only at h1 h2; rw [h1, h2]
  iexact Hp

end Out

/-! ## The staged inputs -/

section In
variable (c : Dev nD)

/-- The four staged inputs at their contents. -/
def Ins : sProp 𝕄 :=
  iprop((((c : Thread nD τ).loc cc0_stg0_0) ↦{fullShare} (xstg m c)) ∗ (((c : Thread nD τ).loc cc0_stg1_0) ↦{fullShare} (rwstg m c))
    ∗ (((c : Thread nD τ).loc cc0_stg2_0) ↦{fullShare} (ixstg m c)) ∗ (((c : Thread nD τ).loc cc0_stg3_0) ↦{fullShare} (ewstg m c)))

/-- The eight loads of one tile's own part. -/
theorem ins_loads (d : Bool) (s : Fin 8) {α : Type} {Q : α → sProp 𝕄}
    {o1 o2 o3 : Fin 2 → ℕ} {n1 n2 n3} (h1 : o1 = ![128 * (tidx c d s.val).val, 0]) (h2 : o2 = ![128 * (tidx c d s.val).val, 0])
    (h3 : o3 = ![128 * (tidx c d s.val).val, 1]) {l1 l2 l3 l4 l5 l6 l7 l8}
    {k : Vec F S128x512 .f32 → Vec F S128x1 .i32 → Vec F S128x1 .i32 → Vec F S512x32 .f32 → Vec F S1x512x1024 .f32 → Vec F S1x512x1024 .f32 → Vec F S1x512x1024 .f32 → Vec F S1x512x1024 .f32 → Prog (TpuEff nD τ sig (Elt F) Λ₀ .tc) α} :
    Ins m c ⊢ iprop((Ins m c -∗ wpc c (k (xT m c (tidx c d s.val)) (i0T m c (tidx c d s.val)) (i1T m c (tidx c d s.val)) (rwT m c) (ewT0 m c) (ewT1 m c) (ewT2 m c) (ewT3 m c)) Q)
      -∗ wpc c
      (.op (.load xM (Rect.unit (s := S2048x512) o1 S128x512.size n1).toLoadRect l1) fun v1 =>
       .op (.load ixM (Rect.unit (s := S2048x2) o2 S128x1.size n2).toLoadRect l2) fun v2 =>
       .op (.load ixM (Rect.unit (s := S2048x2) o3 S128x1.size n3).toLoadRect l3) fun v3 =>
       .op (.load rwM rwR.toLoadRect l4) fun v4 =>
       .op (.load ewM ewR0.toLoadRect l5) fun v5 =>
       .op (.load ewM ewR1.toLoadRect l6) fun v6 =>
       .op (.load ewM ewR2.toLoadRect l7) fun v7 =>
       .op (.load ewM ewR3.toLoadRect l8) fun v8 => k v1 v2 v3 v4 v5 v6 v7 v8) Q) := by
  subst h1 h2 h3
  unfold Ins wpc
  iintro ⟨Hx, Hrw, Hix, Hew⟩ Hk
  iapply (wp_load 𝒱₀ (c : Thread nD τ) none Set.univ (m := xM) (f := xstg m c) (Finset.subset_univ _)) $$ [Hx]
  · iexact Hx
  iintro Hx
  iapply (wp_load 𝒱₀ (c : Thread nD τ) none Set.univ (m := ixM) (f := ixstg m c) (Finset.subset_univ _)) $$ [Hix]
  · iexact Hix
  iintro Hix
  iapply (wp_load 𝒱₀ (c : Thread nD τ) none Set.univ (m := ixM) (f := ixstg m c) (Finset.subset_univ _)) $$ [Hix]
  · iexact Hix
  iintro Hix
  iapply (wp_load 𝒱₀ (c : Thread nD τ) none Set.univ (m := rwM) (f := rwstg m c) (Finset.subset_univ _)) $$ [Hrw]
  · iexact Hrw
  iintro Hrw
  iapply (wp_load 𝒱₀ (c : Thread nD τ) none Set.univ (m := ewM) (f := ewstg m c) (Finset.subset_univ _)) $$ [Hew]
  · iexact Hew
  iintro Hew
  iapply (wp_load 𝒱₀ (c : Thread nD τ) none Set.univ (m := ewM) (f := ewstg m c) (Finset.subset_univ _)) $$ [Hew]
  · iexact Hew
  iintro Hew
  iapply (wp_load 𝒱₀ (c : Thread nD τ) none Set.univ (m := ewM) (f := ewstg m c) (Finset.subset_univ _)) $$ [Hew]
  · iexact Hew
  iintro Hew
  iapply (wp_load 𝒱₀ (c : Thread nD τ) none Set.univ (m := ewM) (f := ewstg m c) (Finset.subset_univ _)) $$ [Hew]
  · iexact Hew
  iintro Hew
  iapply Hk
  isplitl [Hx]; · iexact Hx
  isplitl [Hrw]; · iexact Hrw
  isplitl [Hix]; · iexact Hix
  iexact Hew

end In

end Cert.Proof

end
-- ==== Proof.State.lean ====
/-
  What a device holds between two effects of its body (`St`), by each direction's progress, and each effect's step: waiting
  for a read-out, for a landing, starting a transfer.
-/
module

public import proofs.«01_k».proof.Proof.Tiles

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option CI → ℕ) (c : Dev nD)

/-! ## What every device knows -/

/-- Every cell's invariant, that its round 0 is reached, and the levels. -/
def recs : sProp 𝕄 :=
  iprop((bigSep Finset.univ fun ck : Dev nD × Option CI => cellInv ER (ringRd m) (K ck) (kcell ck))
    ∗ (bigSep Finset.univ fun ck : Dev nD × Option CI => reached ER (kcell ck) 0) ∗ levAts L lv)

instance recs_persistent : BI.Persistent (recs (F := F) m K) := by unfold recs; infer_instance

theorem inv_at (ck : Dev nD × Option CI) :
    (bigSep Finset.univ fun ck : Dev nD × Option CI => (cellInv ER (ringRd m) (K ck) (kcell ck) : sProp 𝕄)) ⊢ cellInv ER (ringRd m) (K ck) (kcell ck) :=
  bigSep_elim (Finset.mem_univ ck)
theorem reached_at (ck : Dev nD × Option CI) :
    (bigSep Finset.univ fun ck : Dev nD × Option CI => (reached ER (kcell ck) 0 : sProp 𝕄)) ⊢ reached ER (kcell ck) 0 :=
  bigSep_elim (Finset.mem_univ ck)
theorem recs_inv (ck : Dev nD × Option CI) : recs m K ⊢ cellInv ER (ringRd m) (K ck) (kcell ck) := by
  unfold recs; iintro ⟨HI, -, -⟩; iapply (inv_at m K ck); iexact HI
theorem recs_reached (ck : Dev nD × Option CI) : recs m K ⊢ (reached ER (kcell ck) 0 : sProp 𝕄) := by
  unfold recs; iintro ⟨-, HR, -⟩; iapply (reached_at (F := F) ck); iexact HR
theorem recs_lev : recs m K ⊢ (levAts L lv : sProp 𝕄) := by unfold recs; iintro ⟨-, -, HL⟩; iexact HL

/-! ## The transfers' resources -/

/-- What a device starts a transfer with: the duties it pays (its own read-out, the neighbour's landing), its position at its
    own send cell, -/
def pend (p : CP) : sProp 𝕄 :=
  iprop(dutyTok ER (sendCell p c) 0 false ∗ dutyTok ER (recvCell p (nbr p.1 c)) 0 false ∗ atPos ER (sendCell p c) 0 ∅ 0)
/-- and for the transfer coming in: the credit of its landing, its position at its receive cell. -/
def rcv (p : CP) : sProp 𝕄 := iprop(cred (tallyAt (recvCell p c) () N) ∗ atPos ER (recvCell p c) 0 ∅ 0)
/-- The source before anything is stored; an all-gather source from the second step on is what landed before. -/
def src0 (p : CP) : sProp 𝕄 := if p.2.val < 8 then tileAny c (srcM p.1 p.2) else iprop(emp)

/-- What a device holds of transfer `p` (its own going out, the one coming in) in phase `n` (`ph`). -/
def A (p : CP) : ℕ → sProp 𝕄
  | 0 => iprop(pend c p ∗ tileAny (nbr p.1 c) (dstM p.1 p.2) ∗ rcv c p ∗ src0 c p)
  | 1 => iprop(pend c p ∗ tileAny (nbr p.1 c) (dstM p.1 p.2) ∗ rcv c p ∗ tileAt c (srcM p.1 p.2) fullShare (VV m p.1 p.2.val c))
  | 2 => iprop(cred (tallyAt (sendCell p c) () N) ∗ atPos ER (sendCell p c) 0 ∅ 0 ∗ rcv c p)
  | 3 => iprop(semVal (sendCell p c) 0 ∗ sendPay m c p ∗ rcv c p)
  | 4 => iprop(semVal (sendCell p c) 0 ∗ sendPay m c p ∗ semVal (recvCell p c) 0 ∗ recvPay m c p)
  | _ => iprop(semVal (sendCell p c) 0 ∗ sendPay m c p ∗ semVal (recvCell p c) 0 ∗ tileAt c (dstM p.1 p.2) fullShare.left (VV m p.1 p.2.val (nbr (!p.1) c)))

theorem A_0 (p : CP) : A m c p 0 = iprop(pend c p ∗ tileAny (nbr p.1 c) (dstM p.1 p.2) ∗ rcv c p ∗ src0 c p) := rfl
theorem A_1 (p : CP) : A m c p 1
    = iprop(pend c p ∗ tileAny (nbr p.1 c) (dstM p.1 p.2) ∗ rcv c p ∗ tileAt c (srcM p.1 p.2) fullShare (VV m p.1 p.2.val c)) := rfl
theorem A_2 (p : CP) : A m c p 2 = iprop(cred (tallyAt (sendCell p c) () N) ∗ atPos ER (sendCell p c) 0 ∅ 0 ∗ rcv c p) := rfl
theorem A_3 (p : CP) : A m c p 3 = iprop(semVal (sendCell p c) 0 ∗ sendPay m c p ∗ rcv c p) := rfl
theorem A_4 (p : CP) : A m c p 4 = iprop(semVal (sendCell p c) 0 ∗ sendPay m c p ∗ semVal (recvCell p c) 0 ∗ recvPay m c p) := rfl
theorem A_5 (p : CP) : A m c p 5
    = iprop(semVal (sendCell p c) 0 ∗ sendPay m c p ∗ semVal (recvCell p c) 0 ∗ tileAt c (dstM p.1 p.2) fullShare.left (VV m p.1 p.2.val (nbr (!p.1) c))) := rfl

def ResA (φ : CP → ℕ) : sProp 𝕄 := bigSep Finset.univ fun p : CP => A m c p (φ p)

theorem bigSep_split1 {I : Type} [Fintype I] [DecidableEq I] (i : I) (Φ : I → sProp 𝕄) :
    bigSep Finset.univ Φ = iprop(Φ i ∗ bigSep (Finset.univ.erase i) Φ) := bigSep_univ_split i

/-- One transfer's resources out, and back in another phase. -/
theorem ResA_take (p : CP) (φ φ' : CP → ℕ) (h : ∀ q, q ≠ p → φ' q = φ q) {P P' : sProp 𝕄} (e : A m c p (φ p) = P) (e' : A m c p (φ' p) = P') :
    ResA m c φ ⊢ iprop(P ∗ (P' -∗ ResA m c φ')) := by
  subst e e'
  unfold ResA
  rw [bigSep_split1 p, bigSep_split1 p (fun q : CP => A m c q (φ' q)),
    bigSep_congr (s := Finset.univ.erase p) (Φ := fun q : CP => A m c q (φ' q)) (Ψ := fun q : CP => A m c q (φ q))
      fun q hq => by rw [h q (Finset.ne_of_mem_erase hq)]]
  iintro ⟨H1, H2⟩
  isplitl [H1]; · iexact H1
  iintro H1
  isplitl [H1]; · iexact H1
  iexact H2

/-- Every transfer's phase at a progress. -/
def phs (t : Bool → ℕ) (p : CP) : ℕ := ph (t p.1) p.2

/-! ## The state between two effects -/

def Ow (t : Bool → ℕ) : sProp 𝕄 := iprop(∃ W, owes (c : Thread nD τ) (owed c t) W)

def St (t : Bool → ℕ) (O : Bool × Fin 8 → FVec F S128x1024 .f32) : sProp 𝕄 :=
  iprop(recs m K ∗ ResA m c (phs t) ∗ Ow c t ∗ Ins m c ∗ Out c O)

/-! ## One effect each -/

section Steps
variable {t t' : Bool → ℕ} {O : Bool × Fin 8 → FVec F S128x1024 .f32} (d : Bool) (j : Fin 14)

theorem ph_at (e : ℕ) (he : e ≤ 4) (ht : t d = 4 * j.val + e) : phs t (d, j) = e := by
  unfold phs ph; simp only; rw [if_neg (by omega)]; omega

/-- Waiting for the read-out of transfer `j`: the source is back. -/
theorem st_sendwait {α : Type} {Q : α → sProp 𝕄} (ht : t d = 4 * j.val + 2) (ht' : t' d = t d + 1) (ho : t' (!d) = t (!d))
    {s : DmaSem sig} (hs : s = xsem false d j) {S S' : Shape} {e e' : EltTy} {src : Memref sig .tc .vmem S e} {dst : Memref sig .tc .vmem S' e'}
    (hN : dst.view.dmaCredit = N) {hsrc hdst} {k : PUnit → Prog (TpuEff nD τ sig (Elt F) Λ₀ .tc) α}
    (H : St m K c t' O ⊢ wpc c (k ⟨⟩) Q) : St m K c t O ⊢ wpc c (.op (.waitDma2 s src dst hsrc hdst) k) Q := by
  subst hs
  have hw : ∀ Kq : PUnit → sProp 𝕄, wpE (defs₀ (F := F)) 𝒱₀ (c : Thread nD τ) none Set.univ (.waitDma2 (xsem false d j) src dst hsrc hdst) Kq
      = waitSpec (c : Thread nD τ) Set.univ (osem (false, d, j)) N Kq := fun Kq => by rw [wpE_waitDma2_eq, hN]
  have hx : 0 + N = (ringRd (F := F) m).expect (sendCell (d, j) c) 0 := by rw [Nat.zero_add]; exact (expect_send m c (d, j)).symm
  have hL := mayWait_of (F := F) c (osem (false, d, j)) t (fun p hp => by rw [slv_send]; unfold plv; omega)
  have hq : ∀ q, q ≠ ((d, j) : CP) → phs t' q = phs t q := fun q hq => ph_other d j 2 (by omega) (by omega) t t' ht ht' ho q hq
  unfold St Ow
  iintro ⟨#HR, Hres, ⟨%W, HO⟩, Hins, Hout⟩
  have hA := (congrArg (A m c (d, j)) (ph_at (t := t) d j 2 (by omega) ht)).trans (A_2 m c (d, j))
  have hA' := (congrArg (A m c (d, j)) (ph_at (t := t') d j 3 (by omega) (by omega))).trans (A_3 m c (d, j))
  ihave Ht := (ResA_take m c (d, j) (phs t) (phs t') hq hA hA') $$ Hres
  icases Ht with ⟨HA, Hres⟩
  icases HA with ⟨Hc, Ha, Hr⟩
  iapply (Rounds.wp_wait_rest_token 𝒱₀ ER (ringRd m) (c : Thread nD τ) none (κ := K (c, some (false, d, j)))
      hw (Set.mem_univ _) () (O := owed c t) (W := W) (R := 0) (m := 0) (T := ∅) hx) $$ [Hc HO Ha]
  · isplitr; · iapply (recs_inv m K (c, some (false, d, j))); iexact HR
    isplitl [Hc]; · iexact Hc
    isplitl [HO]; · iexact HO
    isplitr
    · iapply hL; iapply (recs_lev m K); iexact HR
    iexact Ha
  iintro ⟨HO, Ha, -, Hpay⟩
  ihave Hp := (Entails.of_eq (rest_send m c (d, j))) $$ Hpay
  imod (Rounds.cell_close ER (ringRd m) (Set.mem_univ (K (c, some (false, d, j)))) (fun h => h) (R := 0 + 1) (duties_later m (sendCell (d, j) c))) $$ [Ha] with Hz
  · isplitr; · iapply (recs_inv m K (c, some (false, d, j))); iexact HR
    iexact Ha
  iapply H
  unfold St Ow
  rw [owed_same c d j 2 (by omega) t t' ht ht' ho]
  isplitr; · iexact HR
  isplitl [Hres Hz Hp Hr]
  · iapply Hres
    isplitl [Hz]; · iexact Hz
    isplitl [Hp]; · iexact Hp
    iexact Hr
  isplitl [HO]; · iexists _; iexact HO
  isplitl [Hins]; · iexact Hins
  iexact Hout

/-- Waiting for the landing of transfer `j`: the landing tile, with what the sender sent. -/
theorem st_recvwait {α : Type} {Q : α → sProp 𝕄} (ht : t d = 4 * j.val + 3) (ht' : t' d = t d + 1) (ho : t' (!d) = t (!d))
    (hlev : ∀ i : Fin 14, t (!d) < 4 * i.val + 2 → plv d j.val < plv (!d) i.val)
    {s : DmaSem sig} (hs : s = xsem true d j) {S S' : Shape} {e e' : EltTy} {src : Memref sig .tc .vmem S e} {dst : Memref sig .tc .vmem S' e'}
    (hN : dst.view.dmaCredit = N) {hsrc hdst} {k : PUnit → Prog (TpuEff nD τ sig (Elt F) Λ₀ .tc) α}
    (H : St m K c t' O ⊢ wpc c (k ⟨⟩) Q) : St m K c t O ⊢ wpc c (.op (.waitDma2 s src dst hsrc hdst) k) Q := by
  subst hs
  have hw : ∀ Kq : PUnit → sProp 𝕄, wpE (defs₀ (F := F)) 𝒱₀ (c : Thread nD τ) none Set.univ (.waitDma2 (xsem true d j) src dst hsrc hdst) Kq
      = waitSpec (c : Thread nD τ) Set.univ (osem (true, d, j)) N Kq := fun Kq => by rw [wpE_waitDma2_eq, hN]
  have hx : 0 + N = (ringRd (F := F) m).expect (recvCell (d, j) c) 0 := by rw [Nat.zero_add]; exact (expect_recv m c (d, j)).symm
  have hL := mayWait_of (F := F) c (osem (true, d, j)) t (fun p hp => by
      rw [slv_recv]
      obtain ⟨d', i⟩ := p
      by_cases hd : d' = d
      · subst hd; simp only at hp ⊢; unfold plv; omega
      · have : d' = !d := by cases d <;> cases d' <;> simp_all
        subst this; exact hlev i hp)
  have hq : ∀ q, q ≠ ((d, j) : CP) → phs t' q = phs t q := fun q hq => ph_other d j 3 (by omega) (by omega) t t' ht ht' ho q hq
  unfold St Ow
  iintro ⟨#HR, Hres, ⟨%W, HO⟩, Hins, Hout⟩
  have hA := (congrArg (A m c (d, j)) (ph_at (t := t) d j 3 (by omega) ht)).trans (A_3 m c (d, j))
  have hA' := (congrArg (A m c (d, j)) (ph_at (t := t') d j 4 (by omega) (by omega))).trans (A_4 m c (d, j))
  ihave Ht := (ResA_take m c (d, j) (phs t) (phs t') hq hA hA') $$ Hres
  icases Ht with ⟨HA, Hres⟩
  unfold rcv
  icases HA with ⟨Hz1, Hp1, Hc, Ha⟩
  iapply (Rounds.wp_wait_rest_token 𝒱₀ ER (ringRd m) (c : Thread nD τ) none (κ := K (c, some (true, d, j)))
      hw (Set.mem_univ _) () (O := owed c t) (W := W) (R := 0) (m := 0) (T := ∅) hx) $$ [Hc HO Ha]
  · isplitr; · iapply (recs_inv m K (c, some (true, d, j))); iexact HR
    isplitl [Hc]; · iexact Hc
    isplitl [HO]; · iexact HO
    isplitr
    · iapply hL; iapply (recs_lev m K); iexact HR
    iexact Ha
  iintro ⟨HO, Ha, -, Hpay⟩
  ihave Hp := (Entails.of_eq (rest_recv m c (d, j))) $$ Hpay
  imod (Rounds.cell_close ER (ringRd m) (Set.mem_univ (K (c, some (true, d, j)))) (fun h => h) (R := 0 + 1) (duties_later m (recvCell (d, j) c))) $$ [Ha] with Hz
  · isplitr; · iapply (recs_inv m K (c, some (true, d, j))); iexact HR
    iexact Ha
  iapply H
  unfold St Ow
  rw [owed_same c d j 3 (by omega) t t' ht ht' ho]
  isplitr; · iexact HR
  isplitl [Hres Hz1 Hp1 Hz Hp]
  · iapply Hres
    isplitl [Hz1]; · iexact Hz1
    isplitl [Hp1]; · iexact Hp1
    isplitl [Hz]; · iexact Hz
    iexact Hp
  isplitl [HO]; · iexists _; iexact HO
  isplitl [Hins]; · iexact Hins
  iexact Hout

/-- The rule of a transfer to a named device, for any schedule of one round. -/
theorem wp_send_gen {α : Type} {Q : α → sProp 𝕄} (Rd : Rounds.Schedule (GSem nD τ sig) Bool 𝕄) [∀ g r d, BI.Storable (upEmb : UEmb _ 𝕄) (Rd.payload g r d)]
    (c n : Dev nD) (κ₁ κ₂ : ℕ) {src dst : Memref sig .tc .vmem S128x1024 .bf16} {sS sR : DmaSem sig}
    {hsc : (dst : Memref sig (Dev.tc n : Thread nD τ).2.kind .vmem S128x1024 .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} {q : PosShare TreeShare}
    {fs : Buf (Elt F) (src.view.loc (c : Thread nD τ))} {fd : Buf (Elt F) (dst.view.loc (n : Thread nD τ))}
    (hd₁ : false ∈ Rd.duties ((c : Thread nD τ), .dma sS) 0) (hd₂ : false ∈ Rd.duties ((n : Thread nD τ), .dma sR) 0)
    (u : ℕ) (hN : dst.view.amount (.dma sR) = u)
    (hk₁ : Rd.amount ((c : Thread nD τ), .dma sS) 0 false = u) (hk₂ : Rd.amount ((n : Thread nD τ), .dma sR) 0 false = u)
    {Ob : CellTallies nD τ sig Unit} (Oa : CellTallies nD τ sig Unit) (hO : Ob = Oa + tallyAt ((n : Thread nD τ), .dma sR) () u) {W : Waits sig Unit}
    (hp₁ : (src.view.loc (c : Thread nD τ) ↦[src.view.set]{q} fs) ⊢ Rd.payload ((c : Thread nD τ), .dma sS) 0 false)
    (hp₂ : (dst.view.loc (n : Thread nD τ) ↦[dst.view.set]{fullShare} (dst.view.write (Elt F) fd (src.view.read (Elt F) fs) Finset.univ))
      ⊢ Rd.payload ((n : Thread nD τ), .dma sR) 0 false) :
    iprop(cellInv ER Rd κ₁ ((c : Thread nD τ), .dma sS) ∗ cellInv ER Rd κ₂ ((n : Thread nD τ), .dma sR)
        ∗ (src.view.loc (c : Thread nD τ) ↦[src.view.set]{q} fs) ∗ (dst.view.loc (n : Thread nD τ) ↦[dst.view.set]{fullShare} fd)
        ∗ owes (c : Thread nD τ) Ob W
        ∗ dutyTok ER ((c : Thread nD τ), .dma sS) 0 false ∗ reached ER ((c : Thread nD τ), .dma sS) 0
        ∗ dutyTok ER ((n : Thread nD τ), .dma sR) 0 false ∗ reached ER ((n : Thread nD τ), .dma sR) 0)
      ⊢ iprop(((cred (tallyAt ((c : Thread nD τ), .dma sS) () u) ∗ owes (c : Thread nD τ) Oa W) -∗ wpc c (k ⟨⟩) Q)
          -∗ wpc c (.op (.enqueueDma src (.remote (Dev.tc n : Thread nD τ) dst (.dma sS) hsc) (.dma sR) hsrc hdst hsem) k) Q) :=
  Rounds.wp_send_pointsTo 𝒱₀ ER Rd (c : Thread nD τ) none (r₁ := 0) (r₂ := 0) (d₁ := false) (d₂ := false) (fd := fd) hd₁ hd₂ () () u hN hk₁ hk₂ Oa hO (W := W) hp₁ hp₂

/-- A transfer's start from its source and its landing tile. -/
theorem wp_start {α : Type} {Q : α → sProp 𝕄} {n : Dev nD} (hn : n = nbr d c) {sS sR : DmaSem sig} (hsS : sS = xsem false d j) (hsR : sR = xsem true d j)
    {src dst : Memref sig .tc .vmem S128x1024 .bf16} (hsrcE : src = srcM d j) (hdstE : dst = dstM d j)
    {hsc : (dst : Memref sig (Dev.tc n : Thread nD τ).2.kind .vmem S128x1024 .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} (Ob Oa : CellTallies nD τ sig Unit) (W : Waits sig Unit)
    (hO : Ob = Oa + tallyAt (recvCell (d, j) (nbr d c)) () N) :
    iprop(recs m K ∗ tileAt c (srcM d j) (shr j) (VV m d j.val c) ∗ tileAny (nbr d c) (dstM d j) ∗ owes (c : Thread nD τ) Ob W
        ∗ dutyTok ER (sendCell (d, j) c) 0 false ∗ dutyTok ER (recvCell (d, j) (nbr d c)) 0 false)
      ⊢ iprop(((cred (tallyAt (sendCell (d, j) c) () N) ∗ owes (c : Thread nD τ) Oa W) -∗ wpc c (k ⟨⟩) Q)
          -∗ wpc c (.op (.enqueueDma src (.remote (Dev.tc n : Thread nD τ) dst (.dma sS) hsc) (.dma sR) hsrc hdst hsem) k) Q) := by
  subst hn hsS hsR hsrcE hdstE
  unfold tileAny tileAt owns wpc
  iintro ⟨#HR, ⟨%fs, %hfs, Hs⟩, ⟨%X, %fd, -, Hd⟩, HO, Ht1, Ht2⟩ Hk
  have hNd : (dstM d j).view.amount (.dma (xsem true d j)) = N := credit_dst d j
  have hm1 : false ∈ (ringRd (F := F) m).duties (sendCell (d, j) c) 0 := by rw [duties_send]; exact Finset.mem_singleton_self _
  have hm2 : false ∈ (ringRd (F := F) m).duties (recvCell (d, j) (nbr d c)) 0 := by rw [duties_recv]; exact Finset.mem_singleton_self _
  have hp1 : ((srcM d j).view.loc (c : Thread nD τ) ↦[(srcM d j).view.set]{shr j} fs) ⊢ (ringRd (F := F) m).payload (sendCell (d, j) c) 0 false := by
    rw [payload_send]
    unfold sendPay tileAt owns
    iintro Hs; iexists fs
    isplitr; · ipureintro; exact hfs
    iexact Hs
  have hp2 : ((dstM d j).view.loc (nbr d c : Thread nD τ) ↦[(dstM d j).view.set]{fullShare}
        ((dstM d j).view.write (Elt F) fd ((srcM d j).view.read (Elt F) fs) Finset.univ))
      ⊢ (ringRd (F := F) m).payload (recvCell (d, j) (nbr d c)) 0 false := by
    rw [payload_recv]
    unfold recvPay tileAt owns
    have e : (dstM d j).view.read (Elt F) ((dstM d j).view.write (Elt F) fd ((srcM d j).view.read (Elt F) fs) Finset.univ)
        = VV m d j.val (nbr (!d) (nbr d c)) := by rw [View.read_write_univ, hfs, nbr_nbr]
    iintro Hs
    iexists ((dstM d j).view.write (Elt F) fd ((srcM d j).view.read (Elt F) fs) Finset.univ)
    isplitr
    · ipureintro; exact e
    iexact Hs
  have hs : iprop(cellInv ER (ringRd m) (K (c, some (false, d, j))) (sendCell (d, j) c)
        ∗ cellInv ER (ringRd m) (K (nbr d c, some (true, d, j))) (recvCell (d, j) (nbr d c))
        ∗ ((srcM d j).view.loc (c : Thread nD τ) ↦[(srcM d j).view.set]{shr j} fs)
        ∗ ((dstM d j).view.loc (nbr d c : Thread nD τ) ↦[(dstM d j).view.set]{fullShare} fd)
        ∗ owes (c : Thread nD τ) Ob W
        ∗ dutyTok ER (sendCell (d, j) c) 0 false ∗ reached ER (sendCell (d, j) c) 0
        ∗ dutyTok ER (recvCell (d, j) (nbr d c)) 0 false ∗ reached ER (recvCell (d, j) (nbr d c)) 0)
      ⊢ iprop(((cred (tallyAt (sendCell (d, j) c) () N) ∗ owes (c : Thread nD τ) Oa W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (srcM d j) (.remote (Dev.tc (nbr d c) : Thread nD τ) (dstM d j) (.dma (xsem false d j)) hsc) (.dma (xsem true d j)) hsrc hdst hsem) k) Q) :=
    wp_send_gen (ringRd m) c (nbr d c) (K (c, some (false, d, j))) (K (nbr d c, some (true, d, j))) hm1 hm2 N hNd (amount_send m c (d, j) false) (amount_recv m (nbr d c) (d, j) false) Oa hO hp1 hp2
  iapply hs $$ [Hs Hd HO Ht1 Ht2]
  · isplitr; · iapply (recs_inv m K (c, some (false, d, j))); iexact HR
    isplitr; · iapply (recs_inv m K (nbr d c, some (true, d, j))); iexact HR
    isplitl [Hs]; · iexact Hs
    isplitl [Hd]; · iexact Hd
    isplitl [HO]; · iexact HO
    isplitl [Ht1]; · iexact Ht1
    isplitr; · iapply (recs_reached m K (c, some (false, d, j))); iexact HR
    isplitl [Ht2]; · iexact Ht2
    iapply (recs_reached m K (nbr d c, some (true, d, j))); iexact HR
  iintro H
  iapply Hk
  iexact H

/-- Starting transfer `j` from a stored source. -/
theorem st_start {α : Type} {Q : α → sProp 𝕄} (hj : j.val < 8) (ht : t d = 4 * j.val + 1) (ht' : t' d = t d + 1) (ho : t' (!d) = t (!d))
    {n : Dev nD} (hn : n = nbr d c) {sS sR : DmaSem sig} (hsS : sS = xsem false d j) (hsR : sR = xsem true d j)
    {src dst : Memref sig .tc .vmem S128x1024 .bf16} (hsrcE : src = srcM d j) (hdstE : dst = dstM d j)
    {hsc : (dst : Memref sig (Dev.tc n : Thread nD τ).2.kind .vmem S128x1024 .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α}
    (H : St m K c t' O ⊢ wpc c (k ⟨⟩) Q) :
    St m K c t O ⊢ wpc c (.op (.enqueueDma src (.remote (Dev.tc n : Thread nD τ) dst (.dma sS) hsc) (.dma sR) hsrc hdst hsem) k) Q := by
  have hq : ∀ q, q ≠ ((d, j) : CP) → phs t' q = phs t q := fun q hq => ph_other d j 1 (by omega) (fun _ => hj) t t' ht ht' ho q hq
  have hOw := owed_start c d j t t' (by omega) (by omega) (by omega) ho
  unfold St Ow
  iintro ⟨#HR, Hres, ⟨%W, HO⟩, Hins, Hout⟩
  have hA := (congrArg (A m c (d, j)) (ph_at (t := t) d j 1 (by omega) ht)).trans (A_1 m c (d, j))
  have hA' := (congrArg (A m c (d, j)) (ph_at (t := t') d j 2 (by omega) (by omega))).trans (A_2 m c (d, j))
  ihave Ht := (ResA_take m c (d, j) (phs t) (phs t') hq hA hA') $$ Hres
  icases Ht with ⟨HA, Hres⟩
  unfold pend
  icases HA with ⟨⟨Ht1, Ht2, Ha⟩, Hd, Hr, Hs⟩
  have hsh : shr j = fullShare := if_pos hj
  iapply (wp_start m K c d j hn hsS hsR hsrcE hdstE (owed c t) (owed c t') W hOw) $$ [Hs Hd HO Ht1 Ht2]
  · rw [hsh]
    isplitr; · iexact HR
    isplitl [Hs]; · iexact Hs
    isplitl [Hd]; · iexact Hd
    isplitl [HO]; · iexact HO
    isplitl [Ht1]; · iexact Ht1
    iexact Ht2
  iintro ⟨Hc, HO⟩
  iapply H
  unfold St Ow
  isplitr; · iexact HR
  isplitl [Hres Hc Ha Hr]
  · iapply Hres
    isplitl [Hc]; · iexact Hc
    isplitl [Ha]; · iexact Ha
    iexact Hr
  isplitl [HO]; · iexists W; iexact HO
  isplitl [Hins]; · iexact Hins
  iexact Hout

/-- A tile in two halves. -/
theorem tile_halve (M : Memref sig .tc .vmem S128x1024 .bf16) (X : FVec F S128x1024 .bf16) :
    tileAt c M fullShare X ⊢ iprop(tileAt c M fullShare.left X ∗ tileAt c M fullShare.right X) := by
  unfold tileAt owns
  iintro ⟨%f, %hf, Hp⟩
  ihave Hp := (pointsTo_share (PosShare.mem_left_op_right fullShare)).1 $$ Hp
  icases Hp with ⟨H1, H2⟩
  isplitl [H1]
  · iexists f
    isplitr; · ipureintro; exact hf
    iexact H1
  · iexists f
    isplitr; · ipureintro; exact hf
    iexact H2

/-- And back. -/
theorem tile_join (M : Memref sig .tc .vmem S128x1024 .bf16) (X Y : FVec F S128x1024 .bf16) :
    iprop(tileAt c M fullShare.left X ∗ tileAt c M fullShare.right Y) ⊢ tileAt c M fullShare X := by
  unfold tileAt owns
  iintro ⟨⟨%f, %hf, H1⟩, ⟨%g, %hg, H2⟩⟩
  have key : iprop((M.view.loc (c : Thread nD τ) ↦[M.view.set]{fullShare.left} f) ∗ M.view.loc (c : Thread nD τ) ↦[M.view.set]{fullShare.right} g)
      ⊢ (M.view.loc (c : Thread nD τ) ↦[M.view.set]{fullShare} f : sProp 𝕄) := by
    refine pure_elim _ pointsTo_agree fun h => ?_
    rw [pointsTo_congr (f := g) (g := f) fun i hi => ((h i (Finset.mem_inter.mpr ⟨hi, hi⟩)).1).symm]
    exact (pointsTo_share (PosShare.mem_left_op_right fullShare)).2
  iexists f
  isplitr; · ipureintro; exact hf
  iapply key
  isplitl [H1] <;> iassumption

/-- Starting an all-gather transfer from what has landed: half of the tile is lent, half is kept to be read. -/
theorem st_pass {α : Type} {Q : α → sProp 𝕄} (i : Fin 14) (hi : 7 ≤ i.val) (hji : j.val = i.val + 1) (ht : t d = 4 * j.val) (ht' : t' d = t d + 2) (ho : t' (!d) = t (!d))
    {n : Dev nD} (hn : n = nbr d c) {sS sR : DmaSem sig} (hsS : sS = xsem false d j) (hsR : sR = xsem true d j)
    {src dst : Memref sig .tc .vmem S128x1024 .bf16} (hsrcE : src = srcM d j) (hdstE : dst = dstM d j)
    {hsc : (dst : Memref sig (Dev.tc n : Thread nD τ).2.kind .vmem S128x1024 .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α}
    (H : St m K c t' O ⊢ wpc c (k ⟨⟩) Q) :
    St m K c t O ⊢ wpc c (.op (.enqueueDma src (.remote (Dev.tc n : Thread nD τ) dst (.dma sS) hsc) (.dma sR) hsrc hdst hsem) k) Q := by
  have hOw := owed_start c d j t t' (by omega) (by omega) (by omega) ho
  have hne : ((d, i) : CP) ≠ (d, j) := fun e => by have := congrArg Fin.val (Prod.mk.inj e).2; omega
  -- first the predecessor's phase moves, then this transfer's
  let φ : CP → ℕ := fun q => if q = (d, i) then 5 else phs t q
  have e1 : phs t (d, i) = 4 := by unfold phs ph; simp only; rw [if_neg (by omega)]; omega
  have e1' : φ (d, i) = 5 := if_pos rfl
  have e2 : φ (d, j) = 0 := by
    show (if ((d, j) : CP) = (d, i) then 5 else phs t (d, j)) = 0
    rw [if_neg hne.symm]; exact ph_at d j 0 (by omega) (by omega)
  have e3 : phs t' (d, j) = 2 := ph_at d j 2 (by omega) (by omega)
  have h1 : ∀ q, q ≠ ((d, i) : CP) → φ q = phs t q := fun q hq => if_neg hq
  have h2 : ∀ q, q ≠ ((d, j) : CP) → phs t' q = φ q := fun q hq => by
    by_cases hqi : q = (d, i)
    · subst hqi; rw [e1']; unfold phs ph; simp only; rw [if_pos (by omega)]
    · rw [h1 q hqi]; exact ph_other₂ d i j hi hji t t' ht ht' ho q hqi hq
  unfold St Ow
  iintro ⟨#HR, Hres, ⟨%W, HO⟩, Hins, Hout⟩
  ihave Ht := (ResA_take m c (d, i) (phs t) φ h1 ((congrArg (A m c (d, i)) e1).trans (A_4 m c (d, i))) ((congrArg (A m c (d, i)) e1').trans (A_5 m c (d, i)))) $$ Hres
  icases Ht with ⟨HA, Hres⟩
  icases HA with ⟨Hz1, Hp1, Hz2, Hp2⟩
  unfold recvPay
  ihave Hh := (tile_halve c (dstM d i) _) $$ Hp2
  icases Hh with ⟨Hl, Hs⟩
  ihave Hres := Hres $$ [Hz1 Hp1 Hz2 Hl]
  · isplitl [Hz1]; · iexact Hz1
    isplitl [Hp1]; · iexact Hp1
    isplitl [Hz2]; · iexact Hz2
    iexact Hl
  ihave Ht := (ResA_take m c (d, j) φ (phs t') h2 ((congrArg (A m c (d, j)) e2).trans (A_0 m c (d, j))) ((congrArg (A m c (d, j)) e3).trans (A_2 m c (d, j)))) $$ Hres
  icases Ht with ⟨HA, Hres⟩
  unfold pend
  icases HA with ⟨⟨Ht1, Ht2, Ha⟩, Hd, Hr, -⟩
  have hsh : shr j = fullShare.right := if_neg (by omega)
  have hsrcv : tileAt c (dstM d i) fullShare.right (VV m d i.val (nbr (!d) c)) = tileAt c (srcM d j) (shr j) (VV m d j.val c) := by
    rw [dst_eq_src d i j hi hji, hsh, hji, VV_succ_ge m d i.val hi]
  iapply (wp_start m K c d j hn hsS hsR hsrcE hdstE (owed c t) (owed c t') W hOw) $$ [Hs Hd HO Ht1 Ht2]
  · isplitr; · iexact HR
    isplitl [Hs]; · iapply (Entails.of_eq hsrcv); iexact Hs
    isplitl [Hd]; · iexact Hd
    isplitl [HO]; · iexact HO
    isplitl [Ht1]; · iexact Ht1
    iexact Ht2
  iintro ⟨Hc, HO⟩
  iapply H
  unfold St Ow
  isplitr; · iexact HR
  isplitl [Hres Hc Ha Hr]
  · iapply Hres
    isplitl [Hc]; · iexact Hc
    isplitl [Ha]; · iexact Ha
    iexact Hr
  isplitl [HO]; · iexists W; iexact HO
  isplitl [Hins]; · iexact Hins
  iexact Hout

end Steps

end Cert.Proof

end
-- ==== Proof.Init.lean ====
/-

  What a device's body starts from, and the handshake on the barrier semaphore that precedes the first transfer.

-/
module

public import proofs.«01_k».proof.Proof.State

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option CI → ℕ) (c : Dev nD)

/-- Every landing tile of device `c` in direction `d`. -/
def lands (d : Bool) : sProp 𝕄 := bigSep Finset.univ fun j : Fin 14 => tileAny (F := F) c (dstM d j)

/-- What a device's body starts from, beside its staged arrays: what everyone knows; per transfer, what it starts it with, the
    landing to come, the source; its own landing tiles; the duties of its two signals; its barrier cell's position and credit;
    what it owes. -/
def Start : sProp 𝕄 :=
  iprop(recs m K ∗ (bigSep Finset.univ fun p : CP => iprop(pend (F := F) c p ∗ rcv (F := F) c p ∗ src0 (F := F) c p))
    ∗ (lands (F := F) c true ∗ lands (F := F) c false)
    ∗ (dutyTok ER (barCell (nbr false c)) 0 true ∗ dutyTok ER (barCell (nbr true c)) 0 false)
    ∗ (atPos ER (barCell c) 0 ∅ 0 ∗ cred (tallyAt (barCell c) () 2))
    ∗ (∃ W, owes (c : Thread nD τ) (O₀ c) W))

theorem lands_pay (d : Bool) : lands (F := F) c d = (ringRd m).payload (barCell (nbr (!d) c)) 0 d := by
  rw [payload_bar]; unfold lands barPay
  rw [show nbr d (nbr (!d) c) = c from by cases d <;> revert c <;> decide]

theorem sep_bool (Φ : Bool → sProp 𝕄) : bigSep Finset.univ Φ = iprop(Φ true ∗ Φ false) :=
  bigSep_univ_eq_bigSepL [true, false] (by decide) (by decide) Φ

/-- With the neighbours' landing tiles, every transfer is in phase 0. -/
theorem ResA_intro : iprop((bigSep Finset.univ fun p : CP => iprop(pend (F := F) c p ∗ rcv (F := F) c p ∗ src0 (F := F) c p)) ∗ barPay (F := F) c true ∗ barPay (F := F) c false)
    ⊢ ResA m c (phs fun _ => 0) := by
  have h0 : ∀ p : CP, phs (fun _ => 0) p = 0 := fun p => by unfold phs ph; simp only; rw [if_neg (by omega)]; omega
  have e : ResA m c (phs fun _ => 0) = iprop((bigSep Finset.univ fun p : CP => tileAny (F := F) (nbr p.1 c) (dstM p.1 p.2))
      ∗ (bigSep Finset.univ fun p : CP => iprop(pend (F := F) c p ∗ rcv (F := F) c p ∗ src0 (F := F) c p))) := by
    unfold ResA
    rw [← bigSep_sep']
    refine bigSep_congr fun p _ => ?_
    rw [h0 p, A_0]
    have a1 : ∀ P Q R : sProp 𝕄, iprop(P ∗ Q ∗ R) ⊢ iprop(Q ∗ P ∗ R) := fun P Q R => by
      iintro ⟨H1, H2, H3⟩
      isplitl [H2]; · iexact H2
      isplitl [H1]; · iexact H1
      iexact H3
    exact BI.Entails.antisymm (a1 _ _ _) (a1 _ _ _)
  rw [e, bigSep_univ_prod (fun p : CP => tileAny (F := F) (nbr p.1 c) (dstM p.1 p.2)), sep_bool]
  unfold barPay
  iintro ⟨H1, H2, H3⟩
  isplitl [H2 H3]
  · isplitl [H2] <;> iassumption
  iexact H1

/-- The handshake: a signal to either neighbour's barrier with the landing tiles that neighbour writes, the wait for both
    neighbours'. -/
theorem st_init {O : Bool × Fin 8 → FVec F S128x1024 .f32} {α : Type} {Q : α → sProp 𝕄} {k : Dev nD → Prog (TpuEff nD τ sig (Elt F) Λ₀ .tc) α}
    {n1 n2 : Dev nD → Dev nD} (h1 : n1 c = nbr false c) (h2 : n2 c = nbr true c)
    (H : St m K c (fun _ => 0) O ⊢ wpc c (k c) Q) :
    iprop(Start m K c ∗ Ins m c ∗ Out c O) ⊢ wpc c
      (.op .deviceId fun d => .op (.semSignal ((n1 d : Dev nD) : Thread nD τ) barS 1) fun _ =>
        .op (.semSignal ((n2 d : Dev nD) : Thread nD τ) barS 1) fun _ => .op (.semWait barS 2) fun _ => k d)
      (fun a => iprop(Q a ∗ semVal (barCell c) 0)) := by
  unfold wpc at H ⊢
  rw [wp_deviceId]
  show _ ⊢ wp frame (wpE (defs₀ (F := F)) 𝒱₀ (c : Thread nD τ) none) Set.univ (.op (.semSignal ((n1 c : Dev nD) : Thread nD τ) barS 1) fun _ =>
        .op (.semSignal ((n2 c : Dev nD) : Thread nD τ) barS 1) fun _ => .op (.semWait barS 2) fun _ => k c) _
  rw [h1, h2]
  have hL := mayWait_of (F := F) c (.reg barS) (fun _ => 0) (fun p _ => by show 1 < _; unfold plv; omega)
  have hp1 : lands (F := F) c true = (ringRd m).payload (barCell (nbr false c)) 0 true := lands_pay m c true
  have hp2 : lands (F := F) c false = (ringRd m).payload (barCell (nbr true c)) 0 false := lands_pay m c false
  unfold Start
  iintro ⟨⟨#HR, Htr, ⟨Hl1, Hl2⟩, ⟨Ht1, Ht2⟩, ⟨Hat, Hcr⟩, ⟨%W, HO⟩⟩, Hins, Hout⟩
  iapply (Rounds.wp_signal 𝒱₀ ER (ringRd m) (c : Thread nD τ) none (dst := (nbr false c : Thread nD τ)) (κ := K (nbr false c, none))
      (d := true) (by rw [duties_bar]; exact Finset.mem_univ _) ((amount_bar m (nbr false c) true).trans (by decide)) () (O₁ c) rfl)
    $$ [HO Ht1 Hl1]
  · isplitr; · iapply (recs_inv m K (nbr false c, none)); iexact HR
    isplitl [HO]; · iexact HO
    isplitl [Ht1]; · iexact Ht1
    isplitl [Hl1]; · iapply (Entails.of_eq hp1); iexact Hl1
    iapply (recs_reached m K (nbr false c, none)); iexact HR
  iintro HO
  unfold O₁
  iapply (Rounds.wp_signal 𝒱₀ ER (ringRd m) (c : Thread nD τ) none (dst := (nbr true c : Thread nD τ)) (κ := K (nbr true c, none))
      (d := false) (by rw [duties_bar]; exact Finset.mem_univ _) ((amount_bar m (nbr true c) false).trans (by decide)) () (owed c fun _ => 0) rfl)
    $$ [HO Ht2 Hl2]
  · isplitr; · iapply (recs_inv m K (nbr true c, none)); iexact HR
    isplitl [HO]; · iexact HO
    isplitl [Ht2]; · iexact Ht2
    isplitl [Hl2]; · iapply (Entails.of_eq hp2); iexact Hl2
    iapply (recs_reached m K (nbr true c, none)); iexact HR
  iintro HO
  iapply (Rounds.wp_wait_rest_token 𝒱₀ ER (ringRd m) (c : Thread nD τ) none (κ := K (c, none))
      (wpE_semWait_eq 𝒱₀ (c : Thread nD τ) none Set.univ) (Set.mem_univ _) () (O := owed c fun _ => 0) (W := W) (R := 0) (m := 0) (T := ∅)
      (by rw [expect_bar])) $$ [Hcr HO Hat]
  · isplitr; · iapply (recs_inv m K (c, none)); iexact HR
    isplitl [Hcr]; · iexact Hcr
    isplitl [HO]; · iexact HO
    isplitr; · iapply hL; iapply (recs_lev m K); iexact HR
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iapply (recs_inv m K (c, none)); iexact HR
    iexact Hat
  iapply wp_frame_r
  isplitr [Hz]
  · iapply H
    unfold St Ow
    isplitr; · iexact HR
    isplitl [Htr Hp]
    · iapply (ResA_intro m c)
      isplitl [Htr]; · iexact Htr
      iexact Hp
    isplitl [HO]; · iexists _; iexact HO
    isplitl [Hins]; · iexact Hins
    iexact Hout
  iexact Hz

end Cert.Proof

end
-- ==== Proof.Phases.lean ====
/-

  Loads and stores from the state, and the groups of effects that the body repeats: the first transfer of a direction, a step of
  the reduce-scatter, a step of the all-gather.

-/
module

public import proofs.«01_k».proof.Proof.State

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option CI → ℕ) (c : Dev nD)

section Effects
variable {t t' : Bool → ℕ} {O : Bool × Fin 8 → FVec F S128x1024 .f32} (d : Bool) (j : Fin 14)

/-! ## Loads and stores, from the state -/

theorem st_out_load {α : Type} {Q : α → sProp 𝕄} (s : Fin 8) {o : Fin 2 → ℕ} {n} (ho : o = ![128 * (tidx c d s.val).val, 0])
    {l : (outM : Memref sig .tc .vmem _ _).view.LoadsAt (Rect.unit (s := S2048x1024) o S128x1024.size n).toLoadRect}
    {kk : Vec F S128x1024 .f32 → Prog (TpuEff nD τ sig (Elt F) Λ₀ .tc) α}
    (H : St m K c t O ⊢ wpc c (kk (O (d, s))) Q) :
    St m K c t O ⊢ wpc c (.op (.load outM (Rect.unit (s := S2048x1024) o S128x1024.size n).toLoadRect l) kk) Q := by
  unfold St at H ⊢
  iintro ⟨#HR, Hres, HO, Hins, Hout⟩
  iapply (out_load c d s ho) $$ Hout
  iintro Hout
  iapply H
  isplitr; · iexact HR
  isplitl [Hres]; · iexact Hres
  isplitl [HO]; · iexact HO
  isplitl [Hins]; · iexact Hins
  iexact Hout

theorem st_out_store {α : Type} {Q : α → sProp 𝕄} (s : Fin 8) {o : Fin 2 → ℕ} {n} (ho : o = ![128 * (tidx c d s.val).val, 0]) {w v : Vec F S128x1024 .f32} (hw : w = v)
    {l : ((outM : Memref sig .tc .vmem _ _).access (Rect.unit (s := S2048x1024) o S128x1024.size n)).Stores Finset.univ} {l'}
    {kk : PUnit → Prog (TpuEff nD τ sig (Elt F) Λ₀ .tc) α}
    (H : St m K c t (Function.update O (d, s) v) ⊢ wpc c (kk ⟨⟩) Q) :
    St m K c t O ⊢ wpc c (.op (.store outM (Rect.unit (s := S2048x1024) o S128x1024.size n) w Finset.univ l l') kk) Q := by
  subst hw
  unfold St at H ⊢
  iintro ⟨#HR, Hres, HO, Hins, Hout⟩
  iapply (out_store c d s ho) $$ Hout
  iintro Hout
  iapply H
  isplitr; · iexact HR
  isplitl [Hres]; · iexact Hres
  isplitl [HO]; · iexact HO
  isplitl [Hins]; · iexact Hins
  iexact Hout

/-- The eight loads of one tile's own part. -/
theorem st_ins (s : Fin 8) {α : Type} {Q : α → sProp 𝕄}
    {o1 o2 o3 : Fin 2 → ℕ} {n1 n2 n3} (h1 : o1 = ![128 * (tidx c d s.val).val, 0]) (h2 : o2 = ![128 * (tidx c d s.val).val, 0])
    (h3 : o3 = ![128 * (tidx c d s.val).val, 1]) {l1 l2 l3 l4 l5 l6 l7 l8}
    {k : Vec F S128x512 .f32 → Vec F S128x1 .i32 → Vec F S128x1 .i32 → Vec F S512x32 .f32 → Vec F S1x512x1024 .f32 → Vec F S1x512x1024 .f32 → Vec F S1x512x1024 .f32 → Vec F S1x512x1024 .f32 → Prog (TpuEff nD τ sig (Elt F) Λ₀ .tc) α}
    (H : St m K c t O ⊢ wpc c (k (xT m c (tidx c d s.val)) (i0T m c (tidx c d s.val)) (i1T m c (tidx c d s.val)) (rwT m c) (ewT0 m c) (ewT1 m c) (ewT2 m c) (ewT3 m c)) Q) :
    St m K c t O ⊢ wpc c
      (.op (.load xM (Rect.unit (s := S2048x512) o1 S128x512.size n1).toLoadRect l1) fun v1 =>
       .op (.load ixM (Rect.unit (s := S2048x2) o2 S128x1.size n2).toLoadRect l2) fun v2 =>
       .op (.load ixM (Rect.unit (s := S2048x2) o3 S128x1.size n3).toLoadRect l3) fun v3 =>
       .op (.load rwM rwR.toLoadRect l4) fun v4 =>
       .op (.load ewM ewR0.toLoadRect l5) fun v5 =>
       .op (.load ewM ewR1.toLoadRect l6) fun v6 =>
       .op (.load ewM ewR2.toLoadRect l7) fun v7 =>
       .op (.load ewM ewR3.toLoadRect l8) fun v8 => k v1 v2 v3 v4 v5 v6 v7 v8) Q := by
  unfold St at H ⊢
  iintro ⟨#HR, Hres, HO, Hins, Hout⟩
  iapply (ins_loads m c d s h1 h2 h3) $$ Hins
  iintro Hins
  iapply H
  isplitr; · iexact HR
  isplitl [Hres]; · iexact Hres
  isplitl [HO]; · iexact HO
  isplitl [Hins]; · iexact Hins
  iexact Hout

/-- A transfer's source is read (for nothing) and then stored. -/
theorem st_fill {α : Type} {Q : α → sProp 𝕄} (hj : j.val < 8) (ht : t d = 4 * j.val) (ht' : t' d = t d + 1) (ho : t' (!d) = t (!d))
    {n : ℕ} {M : Memref sig .tc .vmem (Sn n) .bf16} {k : Fin n} (hM : slot M k = srcM d j)
    {w : Vec F S1x128x1024 .bf16 → Vec F S1x128x1024 .bf16} (hw : ∀ x, w x = up (VV m d j.val c))
    {l : M.view.LoadsAt (slotR k).toLoadRect} {l' : (M.access (slotR k)).Stores Finset.univ} {l''}
    {kk : Vec F S1x128x1024 .bf16 → PUnit → Prog (TpuEff nD τ sig (Elt F) Λ₀ .tc) α}
    (H : ∀ x, St m K c t' O ⊢ wpc c (kk x ⟨⟩) Q) :
    St m K c t O ⊢ wpc c (.op (.load M (slotR k).toLoadRect l) fun x => .op (.store M (slotR k) (w x) Finset.univ l' l'') (kk x)) Q := by
  have hq : ∀ q, q ≠ ((d, j) : CP) → phs t' q = phs t q := fun q hq => ph_other d j 0 (by omega) (by omega) t t' ht ht' ho q hq
  have hA := (congrArg (A m c (d, j)) (ph_at (t := t) d j 0 (by omega) ht)).trans (A_0 m c (d, j))
  have hA' := (congrArg (A m c (d, j)) (ph_at (t := t') d j 1 (by omega) (by omega))).trans (A_1 m c (d, j))
  have hsrc : src0 (F := F) c (d, j) = tileAny c (srcM d j) := if_pos hj
  have hOw : owed c t' = owed c t := owed_same c d j 0 (by omega) t t' ht ht' ho
  have hdn : ∀ x, dn (w x) = VV m d j.val c := fun x => by rw [hw, dn_up]
  rw [← hM] at hsrc hA'
  unfold St Ow at H ⊢
  rw [hOw] at H
  iintro ⟨#HR, Hres, HO, Hins, Hout⟩
  ihave Ht := (ResA_take m c (d, j) (phs t) (phs t') hq hA hA') $$ Hres
  icases Ht with ⟨HA, Hres⟩
  icases HA with ⟨Hpend, Hd, Hr, Hs⟩
  ihave Hs := (Entails.of_eq hsrc) $$ Hs
  unfold tileAny
  icases Hs with ⟨%X, Hs⟩
  iapply (slot_load M k c fullShare X) $$ Hs
  iintro Hs
  iapply (slot_store M k c X (w _)) $$ Hs
  iintro Hs
  iapply (H _)
  isplitr; · iexact HR
  isplitl [Hres Hpend Hd Hr Hs]
  · iapply Hres
    isplitl [Hpend]; · iexact Hpend
    isplitl [Hd]; · iexact Hd
    isplitl [Hr]; · iexact Hr
    rw [← hdn (up X)]
    iexact Hs
  isplitl [HO]; · iexact HO
  isplitl [Hins]; · iexact Hins
  iexact Hout

/-- Reading what has landed. -/
theorem st_landed {α : Type} {Q : α → sProp 𝕄} (hp : phs t (d, j) = 4 ∨ phs t (d, j) = 5)
    {n : ℕ} {M : Memref sig .tc .vmem (Sn n) .bf16} {k : Fin n} (hM : slot M k = dstM d j)
    {l : M.view.LoadsAt (slotR k).toLoadRect} {kk : Vec F S1x128x1024 .bf16 → Prog (TpuEff nD τ sig (Elt F) Λ₀ .tc) α}
    (H : St m K c t O ⊢ wpc c (kk (up (VV m d j.val (nbr (!d) c)))) Q) :
    St m K c t O ⊢ wpc c (.op (.load M (slotR k).toLoadRect l) kk) Q := by
  rcases hp with hp | hp
  · have hA := (congrArg (A m c (d, j)) hp).trans (A_4 m c (d, j))
    unfold recvPay at hA
    rw [← hM] at hA
    unfold St at H ⊢
    iintro ⟨#HR, Hres, HO, Hins, Hout⟩
    ihave Ht := (ResA_take m c (d, j) (phs t) (phs t) (fun _ _ => rfl) hA hA) $$ Hres
    icases Ht with ⟨HA, Hres⟩
    icases HA with ⟨H1, H2, H3, Hs⟩
    iapply (slot_load M k c fullShare _) $$ Hs
    iintro Hs
    iapply H
    isplitr; · iexact HR
    isplitl [Hres H1 H2 H3 Hs]
    · iapply Hres
      isplitl [H1]; · iexact H1
      isplitl [H2]; · iexact H2
      isplitl [H3]; · iexact H3
      iexact Hs
    isplitl [HO]; · iexact HO
    isplitl [Hins]; · iexact Hins
    iexact Hout
  · have hA := (congrArg (A m c (d, j)) hp).trans (A_5 m c (d, j))
    rw [← hM] at hA
    unfold St at H ⊢
    iintro ⟨#HR, Hres, HO, Hins, Hout⟩
    ihave Ht := (ResA_take m c (d, j) (phs t) (phs t) (fun _ _ => rfl) hA hA) $$ Hres
    icases Ht with ⟨HA, Hres⟩
    icases HA with ⟨H1, H2, H3, Hs⟩
    iapply (slot_load M k c fullShare.left _) $$ Hs
    iintro Hs
    iapply H
    isplitr; · iexact HR
    isplitl [Hres H1 H2 H3 Hs]
    · iapply Hres
      isplitl [H1]; · iexact H1
      isplitl [H2]; · iexact H2
      isplitl [H3]; · iexact H3
      iexact Hs
    isplitl [HO]; · iexact HO
    isplitl [Hins]; · iexact Hins
    iexact Hout

end Effects

/-! ## The body's recurring groups of effects -/

section Groups
variable {t : Bool → ℕ} (t' : Bool → ℕ) {O : Bool × Fin 8 → FVec F S128x1024 .f32} (d : Bool)

/-- Progress of direction `d` moved to `a`. -/
abbrev adv (t : Bool → ℕ) (d : Bool) (a : ℕ) : Bool → ℕ := Function.update t d a
theorem adv_self (t : Bool → ℕ) (d : Bool) (a : ℕ) : adv t d a d = a := Function.update_self ..
theorem adv_not (t : Bool → ℕ) (d : Bool) (a : ℕ) : adv t d a (!d) = t (!d) := Function.update_of_ne (by cases d <;> decide) ..

/-- A read of a tile of the result that is not used, and its store. -/
theorem st_put {α : Type} {Q : α → sProp 𝕄} (s : Fin 8) {o1 o2 : Fin 2 → ℕ} {n1 n2} (ho1 : o1 = ![128 * (tidx c d s.val).val, 0])
    (ho2 : o2 = ![128 * (tidx c d s.val).val, 0]) {w : Vec F S128x1024 .f32 → Vec F S128x1024 .f32} (v : FVec F S128x1024 .f32) (hw : ∀ y, w y = v) {l1 l2 l3}
    {k : Vec F S128x1024 .f32 → PUnit → Prog (TpuEff nD τ sig (Elt F) Λ₀ .tc) α}
    (H : ∀ y, St m K c t (Function.update O (d, s) v) ⊢ wpc c (k y ⟨⟩) Q) :
    St m K c t O ⊢ wpc c
      (.op (.load outM (Rect.unit (s := S2048x1024) o1 S128x1024.size n1).toLoadRect l1) fun y =>
       .op (.store outM (Rect.unit (s := S2048x1024) o2 S128x1024.size n2) (w y) Finset.univ l2 l3) (k y)) Q :=
  st_out_load m K c d s ho1 (st_out_store m K c d s ho2 (hw _) (H _))

/-- The start of a direction: its first source stored, its first transfer started. -/
theorem st_first {α : Type} {Q : α → sProp 𝕄} (ht : t d = 0) (ht' : t' d = 2) (ho : t' (!d) = t (!d))
    {M : Memref sig .tc .vmem (Sn 7) .bf16} (hM : M = stM d) {w : Vec F S1x128x1024 .bf16 → Vec F S1x128x1024 .bf16} (hw : ∀ x, w x = up (VV m d 0 c))
    {l1 : M.view.LoadsAt (slotR (0 : Fin 7)).toLoadRect} {l2 : (M.access (slotR (0 : Fin 7))).Stores Finset.univ} {l3}
    {n : Dev nD} (hn : n = nbr d c) {sS sR : DmaSem sig} (hsS : sS = xsem false d 0) (hsR : sR = xsem true d 0)
    {src dst : Memref sig .tc .vmem S128x1024 .bf16} (hsrcE : src = srcM d 0) (hdstE : dst = dstM d 0)
    {hsc : (dst : Memref sig (Dev.tc n : Thread nD τ).2.kind .vmem S128x1024 .bf16).view.ref.isScScratch = false}
    {hsrc : src.view.WordExact} {hdst : dst.view.WordExact}
    {hsem : DmaTarget.Typed .vmem (.dma sR) (.remote (Dev.tc n : Thread nD τ) dst (.dma sS) hsc)}
    {k : Vec F S1x128x1024 .bf16 → PUnit → Prog (TpuEff nD τ sig (Elt F) Λ₀ .tc) α}
    (H : ∀ x, St m K c t' O ⊢ wpc c (k x ⟨⟩) Q) :
    St m K c t O ⊢ wpc c
      (.op (.load M (slotR (0 : Fin 7)).toLoadRect l1) fun x =>
       .op (.store M (slotR (0 : Fin 7)) (w x) Finset.univ l2 l3) fun _ =>
       .op (.enqueueDma src (.remote (Dev.tc n : Thread nD τ) dst (.dma sS) hsc) (.dma sR) hsrc hdst hsem) (k x)) Q := by
  subst hM
  have e1 := adv_self t d 1
  have e2 := adv_not t d 1
  refine st_fill m K c (t' := adv t d 1) d 0 (by decide) ht (by omega) e2 rfl hw fun x => ?_
  exact st_start m K c d 0 (by decide) e1 (by omega) (by omega) hn hsS hsR hsrcE hdstE (H x)

/-- A step `s` of the reduce-scatter: transfer `s` read out and landed, what has landed added to the device's own part of the
    next tile, the sum started as transfer `s + 1` and stored in the result. -/
theorem st_round {α : Type} {Q : α → sProp 𝕄} (s : Fin 7) (s' : Fin 8) (j j' : Fin 14) (hs' : s'.val = s.val + 1) (hj : j.val = s.val) (hj' : j'.val = s.val + 1)
    (ht : t d = 4 * s.val + 2) (ht' : t' d = 4 * s.val + 6) (ho : t' (!d) = t (!d))
    (hlev : ∀ i : Fin 14, t (!d) < 4 * i.val + 2 → plv d j.val < plv (!d) i.val)
    (hO : O (d, s') = CH m c d (s.val + 1))
    -- the two waits
    {ws wr : DmaSem sig} (hws : ws = xsem false d j) (hwr : wr = xsem true d j)
    {src1 dst1 src2 dst2 : Memref sig .tc .vmem S128x1024 .bf16} {a1 a2 a3 a4} (hN1 : dst1.view.dmaCredit = N) (hN2 : dst2.view.dmaCredit = N)
    -- the loads and the stores
    {o1 o2 o3 : Fin 2 → ℕ} {n1 n2 n3} (ho1 : o1 = ![128 * (tidx c d s'.val).val, 0]) (ho2 : o2 = ![128 * (tidx c d s'.val).val, 0])
    (ho3 : o3 = ![128 * (tidx c d s'.val).val, 0])
    {C : Memref sig .tc .vmem (Sn 7) .bf16} (hC : slot C s = dstM d j)
    {n : ℕ} {M : Memref sig .tc .vmem (Sn n) .bf16} (k : Fin n) (hM : slot M k = srcM d j')
    {w : Vec F S128x1024 .f32 → Vec F S1x128x1024 .bf16 → Vec F S1x128x1024 .bf16 → Vec F S1x128x1024 .bf16} {w' : Vec F S128x1024 .f32 → Vec F S1x128x1024 .bf16 → Vec F S1x128x1024 .bf16 → Vec F S128x1024 .f32 → Vec F S128x1024 .f32}
    (hw : ∀ a b x, w a b x = up (nar (addf (shapeCast S128x1024 a shapeCasts_S128x1024_S128x1024) (wid (dn b)))))
    (hw' : ∀ a b x y, w' a b x y = addf (shapeCast S128x1024 a shapeCasts_S128x1024_S128x1024) (wid (dn b)))
    {l1 l2 l3 l4 l5 l6 l7 l8}
    -- the transfer
    {nb : Dev nD} (hn : nb = nbr d c) {sS sR : DmaSem sig} (hsS : sS = xsem false d j') (hsR : sR = xsem true d j')
    {src dst : Memref sig .tc .vmem S128x1024 .bf16} (hsrcE : src = srcM d j') (hdstE : dst = dstM d j')
    {hsc : (dst : Memref sig (Dev.tc nb : Thread nD τ).2.kind .vmem S128x1024 .bf16).view.ref.isScScratch = false}
    {hsrc : src.view.WordExact} {hdst : dst.view.WordExact}
    {hsem : DmaTarget.Typed .vmem (.dma sR) (.remote (Dev.tc nb : Thread nD τ) dst (.dma sS) hsc)}
    {kk : Vec F S128x1024 .f32 → Vec F S1x128x1024 .bf16 → Vec F S1x128x1024 .bf16 → Vec F S128x1024 .f32 → Prog (TpuEff nD τ sig (Elt F) Λ₀ .tc) α}
    (H : ∀ a b x y, St m K c t' (Function.update O (d, s') (VF m d s.val c)) ⊢ wpc c (kk a b x y) Q) :
    St m K c t O ⊢ wpc c
      (.op (.waitDma2 ws src1 dst1 a1 a2) fun _ =>
       .op (.waitDma2 wr src2 dst2 a3 a4) fun _ =>
       .op (.load outM (Rect.unit (s := S2048x1024) o1 S128x1024.size n1).toLoadRect l1) fun a =>
       .op (.load C (slotR s).toLoadRect l2) fun b =>
       .op (.load M (slotR k).toLoadRect l3) fun x =>
       .op (.store M (slotR k) (w a b x) Finset.univ l4 l5) fun _ =>
       .op (.enqueueDma src (.remote (Dev.tc nb : Thread nD τ) dst (.dma sS) hsc) (.dma sR) hsrc hdst hsem) fun _ =>
       .op (.load outM (Rect.unit (s := S2048x1024) o2 S128x1024.size n2).toLoadRect l6) fun y =>
       .op (.store outM (Rect.unit (s := S2048x1024) o3 S128x1024.size n3) (w' a b x y) Finset.univ l7 l8) fun _ => kk a b x y) Q := by
  have e1 := adv_self t d (4 * s.val + 3)
  have e1' := adv_not t d (4 * s.val + 3)
  have e2 := adv_self t d (4 * s.val + 4)
  have e2' := adv_not t d (4 * s.val + 4)
  have e3 := adv_self t d (4 * s.val + 5)
  have e3' := adv_not t d (4 * s.val + 5)
  refine st_sendwait m K c (t' := adv t d (4 * s.val + 3)) d j (by omega) (by omega) e1' hws hN1 ?_
  refine st_recvwait m K c (t' := adv t d (4 * s.val + 4)) d j (by omega) (by omega) (by omega) (by rw [e1']; exact hlev) hwr hN2 ?_
  refine st_out_load m K c d s' ho1 ?_
  refine st_landed m K c d j (.inl (ph_at d j 4 (by omega) (by omega))) hC ?_
  have hv : addf (shapeCast S128x1024 (O (d, s')) shapeCasts_S128x1024_S128x1024) (wid (dn (up (VV m d j.val (nbr (!d) c))))) = VF m d s.val c := by
    rw [dn_up, hO, shapeCast_self, hj]; rfl
  have hv' := fun x => (hw (O (d, s')) (up (VV m d j.val (nbr (!d) c))) x).trans ((congrArg (fun x => up (nar x)) hv).trans ((congrArg up (VV_succ_lt m d s.val s.isLt c).symm).trans (congrArg (fun i => up (VV m d i c)) hj'.symm)))
  refine st_fill m K c (t := adv t d (4 * s.val + 4)) (t' := adv t d (4 * s.val + 5)) d j' (by omega) (by omega) (by omega) (by omega) hM hv' fun x => ?_
  refine st_start m K c (t' := t') d j' (by omega) (by omega) (by omega) (by omega) hn hsS hsR hsrcE hdstE ?_
  have hv2 := fun y => (hw' (O (d, s')) (up (VV m d j.val (nbr (!d) c))) x y).trans hv
  exact st_put m K c d s' ho2 ho3 _ hv2 (fun y => H _ _ x y)

/-- A step of the all-gather that passes what has landed on: transfer `j` read out and landed, its tile started as transfer
    `j + 1`, read and stored in the result. -/
theorem st_gather {α : Type} {Q : α → sProp 𝕄} (s : Fin 8) (hs : s.val < 6) (j j' : Fin 14) (hj : j.val = s.val + 7) (hj' : j'.val = s.val + 8)
    (ht : t d = 4 * j.val + 2) (ht' : t' d = 4 * j.val + 6) (ho : t' (!d) = t (!d))
    (hlev : ∀ i : Fin 14, t (!d) < 4 * i.val + 2 → plv d j.val < plv (!d) i.val)
    {ws wr : DmaSem sig} (hws : ws = xsem false d j) (hwr : wr = xsem true d j)
    {src1 dst1 src2 dst2 : Memref sig .tc .vmem S128x1024 .bf16} {a1 a2 a3 a4} (hN1 : dst1.view.dmaCredit = N) (hN2 : dst2.view.dmaCredit = N)
    {nb : Dev nD} (hn : nb = nbr d c) {sS sR : DmaSem sig} (hsS : sS = xsem false d j') (hsR : sR = xsem true d j')
    {src dst : Memref sig .tc .vmem S128x1024 .bf16} (hsrcE : src = srcM d j') (hdstE : dst = dstM d j')
    {hsc : (dst : Memref sig (Dev.tc nb : Thread nD τ).2.kind .vmem S128x1024 .bf16).view.ref.isScScratch = false}
    {hsrc : src.view.WordExact} {hdst : dst.view.WordExact}
    {hsem : DmaTarget.Typed .vmem (.dma sR) (.remote (Dev.tc nb : Thread nD τ) dst (.dma sS) hsc)}
    {o1 o2 : Fin 2 → ℕ} {n1 n2} (ho1 : o1 = ![128 * (tidx c d s.val).val, 0]) (ho2 : o2 = ![128 * (tidx c d s.val).val, 0])
    {C : Memref sig .tc .vmem (Sn 8) .bf16} (k : Fin 8) (hC : slot C k = dstM d j)
    {w : Vec F S1x128x1024 .bf16 → Vec F S128x1024 .f32 → Vec F S128x1024 .f32} (hw : ∀ b y, w b y = wid (dn b))
    {l1 l2 l3 l4}
    {kk : Vec F S1x128x1024 .bf16 → Vec F S128x1024 .f32 → Prog (TpuEff nD τ sig (Elt F) Λ₀ .tc) α}
    (H : ∀ b y, St m K c t' (Function.update O (d, s) (wid (VV m d (s.val + 7) (nbr (!d) c)))) ⊢ wpc c (kk b y) Q) :
    St m K c t O ⊢ wpc c
      (.op (.waitDma2 ws src1 dst1 a1 a2) fun _ =>
       .op (.waitDma2 wr src2 dst2 a3 a4) fun _ =>
       .op (.enqueueDma src (.remote (Dev.tc nb : Thread nD τ) dst (.dma sS) hsc) (.dma sR) hsrc hdst hsem) fun _ =>
       .op (.load C (slotR k).toLoadRect l1) fun b =>
       .op (.load outM (Rect.unit (s := S2048x1024) o1 S128x1024.size n1).toLoadRect l2) fun y =>
       .op (.store outM (Rect.unit (s := S2048x1024) o2 S128x1024.size n2) (w b y) Finset.univ l3 l4) fun _ => kk b y) Q := by
  have e1 := adv_self t d (4 * j.val + 3)
  have e1' := adv_not t d (4 * j.val + 3)
  have e2 := adv_self t d (4 * j.val + 4)
  have e2' := adv_not t d (4 * j.val + 4)
  refine st_sendwait m K c (t' := adv t d (4 * j.val + 3)) d j (by omega) (by omega) e1' hws hN1 ?_
  refine st_recvwait m K c (t' := adv t d (4 * j.val + 4)) d j (by omega) (by omega) (by omega) (by rw [e1']; exact hlev) hwr hN2 ?_
  refine st_pass m K c (t' := t') d j' j (by omega) (by omega) (by omega) (by omega) (by omega) hn hsS hsR hsrcE hdstE ?_
  refine st_landed m K c d j (.inr ?_) hC ?_
  · unfold phs ph; simp only; rw [if_pos (by omega)]
  have hv := fun y => (hw (up (VV m d j.val (nbr (!d) c))) y).trans ((congrArg wid (dn_up _)).trans (congrArg (fun i => wid (VV m d i (nbr (!d) c))) hj))
  exact st_put m K c d s ho1 ho2 _ hv (fun y => H _ y)

/-- The last step of the all-gather. -/
theorem st_last {α : Type} {Q : α → sProp 𝕄} (ht : t d = 54) (ht' : t' d = 56) (ho : t' (!d) = t (!d))
    (hlev : ∀ i : Fin 14, t (!d) < 4 * i.val + 2 → plv d 13 < plv (!d) i.val)
    {ws wr : DmaSem sig} (hws : ws = xsem false d 13) (hwr : wr = xsem true d 13)
    {src1 dst1 src2 dst2 : Memref sig .tc .vmem S128x1024 .bf16} {a1 a2 a3 a4} (hN1 : dst1.view.dmaCredit = N) (hN2 : dst2.view.dmaCredit = N)
    {o1 o2 : Fin 2 → ℕ} {n1 n2} (ho1 : o1 = ![128 * (tidx c d 6).val, 0]) (ho2 : o2 = ![128 * (tidx c d 6).val, 0])
    {C : Memref sig .tc .vmem (Sn 8) .bf16} (hC : slot C (7 : Fin 8) = dstM d 13)
    {w : Vec F S1x128x1024 .bf16 → Vec F S128x1024 .f32 → Vec F S128x1024 .f32} (hw : ∀ b y, w b y = wid (dn b))
    {l1 l2 l3 l4}
    {kk : Vec F S1x128x1024 .bf16 → Vec F S128x1024 .f32 → Prog (TpuEff nD τ sig (Elt F) Λ₀ .tc) α}
    (H : ∀ b y, St m K c t' (Function.update O (d, (6 : Fin 8)) (wid (VV m d 13 (nbr (!d) c)))) ⊢ wpc c (kk b y) Q) :
    St m K c t O ⊢ wpc c
      (.op (.waitDma2 ws src1 dst1 a1 a2) fun _ =>
       .op (.waitDma2 wr src2 dst2 a3 a4) fun _ =>
       .op (.load C (slotR (7 : Fin 8)).toLoadRect l1) fun b =>
       .op (.load outM (Rect.unit (s := S2048x1024) o1 S128x1024.size n1).toLoadRect l2) fun y =>
       .op (.store outM (Rect.unit (s := S2048x1024) o2 S128x1024.size n2) (w b y) Finset.univ l3 l4) fun _ => kk b y) Q := by
  have e1 := adv_self t d 55
  have e1' := adv_not t d 55
  have e0 : (13 : Fin 14).val = 13 := rfl
  refine st_sendwait m K c (t' := adv t d 55) d 13 (by omega) (by omega) e1' hws hN1 ?_
  refine st_recvwait m K c (t' := t') d 13 (by omega) (by omega) (by omega) (by rw [e1']; exact hlev) hwr hN2 ?_
  refine st_landed m K c d 13 (.inl (ph_at d 13 4 (by omega) (by omega))) hC ?_
  have hv := fun y => (hw (up (VV m d 13 (nbr (!d) c))) y).trans (congrArg wid (dn_up _))
  exact st_put m K c d 6 ho1 ho2 _ hv (fun y => H _ y)

end Groups

end Cert.Proof

end
-- ==== Proof.Body.lean ====
/-

  The body of the kernel at a symbolic device, phase by phase.

-/
module

public import proofs.«01_k».proof.Proof.Init
public import proofs.«01_k».proof.Proof.Phases

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the accesses fall, and whom the transfers go to -/

set_option backward.proofsInPublic true in
theorem at1 (c : Dev nD) : k0_off1 c = ![128 * (tidx c true 0).val, 0] ∧ k0_off2 c = ![128 * (tidx c true 0).val, 0]
    ∧ k0_off3 c = ![128 * (tidx c true 0).val, 1] ∧ k0_off4 c = ![128 * (tidx c true 0).val, 0] := by revert c; decide +kernel
theorem at5 (c : Dev nD) : k0_off5 c = ![128 * (tidx c false 0).val, 0] ∧ k0_off6 c = ![128 * (tidx c false 0).val, 0]
    ∧ k0_off7 c = ![128 * (tidx c false 0).val, 1] ∧ k0_off8 c = ![128 * (tidx c false 0).val, 0] := by revert c; decide +kernel
theorem at9 (c : Dev nD) (s : Fin 7) : k0_off9 c (BitVec.ofNat 32 s.val) = ![128 * (tidx c true (s.val + 1)).val, 0]
    ∧ k0_off10 c (BitVec.ofNat 32 s.val) = ![128 * (tidx c true (s.val + 1)).val, 0]
    ∧ k0_off11 c (BitVec.ofNat 32 s.val) = ![128 * (tidx c true (s.val + 1)).val, 1]
    ∧ k0_off12 c (BitVec.ofNat 32 s.val) = ![128 * (tidx c true (s.val + 1)).val, 0] := by revert c s; decide +kernel
theorem at13 (c : Dev nD) (s : Fin 7) : k0_off13 c (BitVec.ofNat 32 s.val) = ![128 * (tidx c false (s.val + 1)).val, 0]
    ∧ k0_off14 c (BitVec.ofNat 32 s.val) = ![128 * (tidx c false (s.val + 1)).val, 0]
    ∧ k0_off15 c (BitVec.ofNat 32 s.val) = ![128 * (tidx c false (s.val + 1)).val, 1]
    ∧ k0_off16 c (BitVec.ofNat 32 s.val) = ![128 * (tidx c false (s.val + 1)).val, 0] := by revert c s; decide +kernel
theorem at17 (c : Dev nD) (s : Fin 7) : k0_off17 c (BitVec.ofNat 32 s.val) = ![128 * (tidx c true s.val).val, 0]
    ∧ k0_off18 c (BitVec.ofNat 32 s.val) = ![128 * (tidx c false s.val).val, 0] := by revert c s; decide +kernel

/-- The device that transfer `j` of a direction goes to, as the program computes it. -/
def peer (c : Dev nD) : Bool → Fin 14 → ℕ
  | true => ![k0_dev3 c, k0_dev5 c, k0_dev7 c, k0_dev9 c, k0_dev11 c, k0_dev13 c, k0_dev15 c, k0_dev17 c, k0_dev19 c, k0_dev21 c,
      k0_dev23 c, k0_dev25 c, k0_dev27 c, k0_dev29 c]
  | false => ![k0_dev4 c, k0_dev6 c, k0_dev8 c, k0_dev10 c, k0_dev12 c, k0_dev14 c, k0_dev16 c, k0_dev18 c, k0_dev20 c, k0_dev22 c,
      k0_dev24 c, k0_dev26 c, k0_dev28 c, k0_dev30 c]

theorem peer_eq (c : Dev nD) (d : Bool) (j : Fin 14) : peer c d j = (nbr d c).val := by revert c d j; decide +kernel
theorem peer_bar (c : Dev nD) : k0_dev1 c = (nbr false c).val ∧ k0_dev2 c = (nbr true c).val := by revert c; decide +kernel
theorem goes (c : Dev nD) (d : Bool) (j : Fin 14) {h} : (⟨peer c d j, h⟩ : Dev nD) = nbr d c := Fin.ext (peer_eq c d j)

/-! ## The body -/

/-- How far the two directions are. -/
def at2 (a b : ℕ) (d : Bool) : ℕ := if d then a else b

/-- The result after the body: what came in place of each tile. -/
def FO (c : Dev nD) : Bool × Fin 8 → FVec F S128x1024 .f32
  | (d, ⟨7, _⟩) => VF m d 6 c
  | (d, s) => wid (VV m d (s.val + 7) (nbr (!d) c))

variable (K : Dev nD × Option CI → ℕ)

/-- The end of the body. -/
theorem st_ret (c : Dev nD) {t t' : Bool → ℕ} {O O' : Bool × Fin 8 → FVec F S128x1024 .f32} (ht : t = t') (hO : O = O') {α : Type} {x : α} :
    St m K c t O ⊢ wpc c (.ret x) (fun _ => St m K c t' O') := by
  subst ht hO
  unfold wpc
  rw [wp_ret]
  iintro H
  imodintro
  iexact H

set_option maxHeartbeats 1000000 in
set_option maxRecDepth 100000 in
/-- Device `c`'s body: from the start to every transfer landed, with the barrier cell closed. -/
theorem body (c : Dev nD) (O : Bool × Fin 8 → FVec F S128x1024 .f32) :
    iprop(Start m K c ∗ Ins m c ∗ Out c O)
      ⊢ wpc c
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9) (fun _ => iprop(St m K c (fun _ => 56) (FO m c) ∗ semVal (barCell c) 0)) := by
  rw [cc0_body_eq_skeleton]; unfold cc0_body_skel
  rw [k0_part85_eq_skeleton]; unfold k0_part85_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  refine st_init m K c (Fin.ext (peer_bar c).1) (Fin.ext (peer_bar c).2) ?_
  refine st_ins m K c true 0 (at1 c).1 (at1 c).2.1 (at1 c).2.2.1 ?_
  refine st_first m K c (t := at2 0 0) (t' := at2 2 0) true (by rfl) (by rfl) (by rfl) (by rfl) (by intros; rfl) (goes c true 0) (by rfl) (by rfl) (by rfl) (by rfl) fun _ => ?_
  refine st_put m K c true 0 (at1 c).2.2.2 (at1 c).2.2.2 (CH m c true 0) (by intros; rfl) fun _ => ?_
  refine st_ins m K c false 0 (at5 c).1 (at5 c).2.1 (at5 c).2.2.1 ?_
  refine st_first m K c (t := at2 2 0) (t' := at2 2 2) false (by rfl) (by rfl) (by rfl) (by rfl) (by intros; rfl) (goes c false 0) (by rfl) (by rfl) (by rfl) (by rfl) fun _ => ?_
  refine st_put m K c false 0 (at5 c).2.2.2 (at5 c).2.2.2 (CH m c false 0) (by intros; rfl) fun _ => ?_
  refine st_ins m K c true 1 (at9 c 0).1 (at9 c 0).2.1 (at9 c 0).2.2.1 ?_
  refine st_put m K c true 1 (at9 c 0).2.2.2 (at9 c 0).2.2.2 (CH m c true 1) (by intros; rfl) fun _ => ?_
  refine st_ins m K c false 1 (at13 c 0).1 (at13 c 0).2.1 (at13 c 0).2.2.1 ?_
  refine st_put m K c false 1 (at13 c 0).2.2.2 (at13 c 0).2.2.2 (CH m c false 1) (by intros; rfl) fun _ => ?_
  refine st_round m K c (t := at2 2 2) (t' := at2 6 2) (n := 7) true 0 1 0 1 (by rfl) (by rfl) (by rfl) (by rfl) (by rfl) (by rfl) (by decide) (by rfl) (by rfl) (by rfl) (by rfl) (by rfl) (at9 c 0).2.2.2 (at9 c 0).2.2.2 (at9 c 0).2.2.2 (by rfl) 1 (by rfl) (by intros; rfl) (by intros; rfl) (goes c true 1) (by rfl) (by rfl) (by rfl) (by rfl) fun _ _ _ _ => ?_
  refine st_round m K c (t := at2 6 2) (t' := at2 6 6) (n := 7) false 0 1 0 1 (by rfl) (by rfl) (by rfl) (by rfl) (by rfl) (by rfl) (by decide) (by rfl) (by rfl) (by rfl) (by rfl) (by rfl) (at13 c 0).2.2.2 (at13 c 0).2.2.2 (at13 c 0).2.2.2 (by rfl) 1 (by rfl) (by intros; rfl) (by intros; rfl) (goes c false 1) (by rfl) (by rfl) (by rfl) (by rfl) fun _ _ _ _ => ?_
  refine st_ins m K c true 2 (at9 c 1).1 (at9 c 1).2.1 (at9 c 1).2.2.1 ?_
  refine st_put m K c true 2 (at9 c 1).2.2.2 (at9 c 1).2.2.2 (CH m c true 2) (by intros; rfl) fun _ => ?_
  refine st_ins m K c false 2 (at13 c 1).1 (at13 c 1).2.1 (at13 c 1).2.2.1 ?_
  refine st_put m K c false 2 (at13 c 1).2.2.2 (at13 c 1).2.2.2 (CH m c false 2) (by intros; rfl) fun _ => ?_
  refine st_round m K c (t := at2 6 6) (t' := at2 10 6) (n := 7) true 1 2 1 2 (by rfl) (by rfl) (by rfl) (by rfl) (by rfl) (by rfl) (by decide) (by rfl) (by rfl) (by rfl) (by rfl) (by rfl) (at9 c 1).2.2.2 (at9 c 1).2.2.2 (at9 c 1).2.2.2 (by rfl) 2 (by rfl) (by intros; rfl) (by intros; rfl) (goes c true 2) (by rfl) (by rfl) (by rfl) (by rfl) fun _ _ _ _ => ?_
  refine st_round m K c (t := at2 10 6) (t' := at2 10 10) (n := 7) false 1 2 1 2 (by rfl) (by rfl) (by rfl) (by rfl) (by rfl) (by rfl) (by decide) (by rfl) (by rfl) (by rfl) (by rfl) (by rfl) (at13 c 1).2.2.2 (at13 c 1).2.2.2 (at13 c 1).2.2.2 (by rfl) 2 (by rfl) (by intros; rfl) (by intros; rfl) (goes c false 2) (by rfl) (by rfl) (by rfl) (by rfl) fun _ _ _ _ => ?_
  refine st_ins m K c true 3 (at9 c 2).1 (at9 c 2).2.1 (at9 c 2).2.2.1 ?_
  refine st_put m K c true 3 (at9 c 2).2.2.2 (at9 c 2).2.2.2 (CH m c true 3) (by intros; rfl) fun _ => ?_
  refine st_ins m K c false 3 (at13 c 2).1 (at13 c 2).2.1 (at13 c 2).2.2.1 ?_
  refine st_put m K c false 3 (at13 c 2).2.2.2 (at13 c 2).2.2.2 (CH m c false 3) (by intros; rfl) fun _ => ?_
  refine st_round m K c (t := at2 10 10) (t' := at2 14 10) (n := 7) true 2 3 2 3 (by rfl) (by rfl) (by rfl) (by rfl) (by rfl) (by rfl) (by decide) (by rfl) (by rfl) (by rfl) (by rfl) (by rfl) (at9 c 2).2.2.2 (at9 c 2).2.2.2 (at9 c 2).2.2.2 (by rfl) 3 (by rfl) (by intros; rfl) (by intros; rfl) (goes c true 3) (by rfl) (by rfl) (by rfl) (by rfl) fun _ _ _ _ => ?_
  refine st_round m K c (t := at2 14 10) (t' := at2 14 14) (n := 7) false 2 3 2 3 (by rfl) (by rfl) (by rfl) (by rfl) (by rfl) (by rfl) (by decide) (by rfl) (by rfl) (by rfl) (by rfl) (by rfl) (at13 c 2).2.2.2 (at13 c 2).2.2.2 (at13 c 2).2.2.2 (by rfl) 3 (by rfl) (by intros; rfl) (by intros; rfl) (goes c false 3) (by rfl) (by rfl) (by rfl) (by rfl) fun _ _ _ _ => ?_
  refine st_ins m K c true 4 (at9 c 3).1 (at9 c 3).2.1 (at9 c 3).2.2.1 ?_
  refine st_put m K c true 4 (at9 c 3).2.2.2 (at9 c 3).2.2.2 (CH m c true 4) (by intros; rfl) fun _ => ?_
  refine st_ins m K c false 4 (at13 c 3).1 (at13 c 3).2.1 (at13 c 3).2.2.1 ?_
  refine st_put m K c false 4 (at13 c 3).2.2.2 (at13 c 3).2.2.2 (CH m c false 4) (by intros; rfl) fun _ => ?_
  refine st_round m K c (t := at2 14 14) (t' := at2 18 14) (n := 7) true 3 4 3 4 (by rfl) (by rfl) (by rfl) (by rfl) (by rfl) (by rfl) (by decide) (by rfl) (by rfl) (by rfl) (by rfl) (by rfl) (at9 c 3).2.2.2 (at9 c 3).2.2.2 (at9 c 3).2.2.2 (by rfl) 4 (by rfl) (by intros; rfl) (by intros; rfl) (goes c true 4) (by rfl) (by rfl) (by rfl) (by rfl) fun _ _ _ _ => ?_
  refine st_round m K c (t := at2 18 14) (t' := at2 18 18) (n := 7) false 3 4 3 4 (by rfl) (by rfl) (by rfl) (by rfl) (by rfl) (by rfl) (by decide) (by rfl) (by rfl) (by rfl) (by rfl) (by rfl) (at13 c 3).2.2.2 (at13 c 3).2.2.2 (at13 c 3).2.2.2 (by rfl) 4 (by rfl) (by intros; rfl) (by intros; rfl) (goes c false 4) (by rfl) (by rfl) (by rfl) (by rfl) fun _ _ _ _ => ?_
  refine st_ins m K c true 5 (at9 c 4).1 (at9 c 4).2.1 (at9 c 4).2.2.1 ?_
  refine st_put m K c true 5 (at9 c 4).2.2.2 (at9 c 4).2.2.2 (CH m c true 5) (by intros; rfl) fun _ => ?_
  refine st_ins m K c false 5 (at13 c 4).1 (at13 c 4).2.1 (at13 c 4).2.2.1 ?_
  refine st_put m K c false 5 (at13 c 4).2.2.2 (at13 c 4).2.2.2 (CH m c false 5) (by intros; rfl) fun _ => ?_
  refine st_round m K c (t := at2 18 18) (t' := at2 22 18) (n := 7) true 4 5 4 5 (by rfl) (by rfl) (by rfl) (by rfl) (by rfl) (by rfl) (by decide) (by rfl) (by rfl) (by rfl) (by rfl) (by rfl) (at9 c 4).2.2.2 (at9 c 4).2.2.2 (at9 c 4).2.2.2 (by rfl) 5 (by rfl) (by intros; rfl) (by intros; rfl) (goes c true 5) (by rfl) (by rfl) (by rfl) (by rfl) fun _ _ _ _ => ?_
  refine st_round m K c (t := at2 22 18) (t' := at2 22 22) (n := 7) false 4 5 4 5 (by rfl) (by rfl) (by rfl) (by rfl) (by rfl) (by rfl) (by decide) (by rfl) (by rfl) (by rfl) (by rfl) (by rfl) (at13 c 4).2.2.2 (at13 c 4).2.2.2 (at13 c 4).2.2.2 (by rfl) 5 (by rfl) (by intros; rfl) (by intros; rfl) (goes c false 5) (by rfl) (by rfl) (by rfl) (by rfl) fun _ _ _ _ => ?_
  refine st_ins m K c true 6 (at9 c 5).1 (at9 c 5).2.1 (at9 c 5).2.2.1 ?_
  refine st_put m K c true 6 (at9 c 5).2.2.2 (at9 c 5).2.2.2 (CH m c true 6) (by intros; rfl) fun _ => ?_
  refine st_ins m K c false 6 (at13 c 5).1 (at13 c 5).2.1 (at13 c 5).2.2.1 ?_
  refine st_put m K c false 6 (at13 c 5).2.2.2 (at13 c 5).2.2.2 (CH m c false 6) (by intros; rfl) fun _ => ?_
  refine st_round m K c (t := at2 22 22) (t' := at2 26 22) (n := 7) true 5 6 5 6 (by rfl) (by rfl) (by rfl) (by rfl) (by rfl) (by rfl) (by decide) (by rfl) (by rfl) (by rfl) (by rfl) (by rfl) (at9 c 5).2.2.2 (at9 c 5).2.2.2 (at9 c 5).2.2.2 (by rfl) 6 (by rfl) (by intros; rfl) (by intros; rfl) (goes c true 6) (by rfl) (by rfl) (by rfl) (by rfl) fun _ _ _ _ => ?_
  refine st_round m K c (t := at2 26 22) (t' := at2 26 26) (n := 7) false 5 6 5 6 (by rfl) (by rfl) (by rfl) (by rfl) (by rfl) (by rfl) (by decide) (by rfl) (by rfl) (by rfl) (by rfl) (by rfl) (at13 c 5).2.2.2 (at13 c 5).2.2.2 (at13 c 5).2.2.2 (by rfl) 6 (by rfl) (by intros; rfl) (by intros; rfl) (goes c false 6) (by rfl) (by rfl) (by rfl) (by rfl) fun _ _ _ _ => ?_
  refine st_ins m K c true 7 (at9 c 6).1 (at9 c 6).2.1 (at9 c 6).2.2.1 ?_
  refine st_put m K c true 7 (at9 c 6).2.2.2 (at9 c 6).2.2.2 (CH m c true 7) (by intros; rfl) fun _ => ?_
  refine st_ins m K c false 7 (at13 c 6).1 (at13 c 6).2.1 (at13 c 6).2.2.1 ?_
  refine st_put m K c false 7 (at13 c 6).2.2.2 (at13 c 6).2.2.2 (CH m c false 7) (by intros; rfl) fun _ => ?_
  refine st_round m K c (t := at2 26 26) (t' := at2 30 26) (n := 8) true 6 7 6 7 (by rfl) (by rfl) (by rfl) (by rfl) (by rfl) (by rfl) (by decide) (by rfl) (by rfl) (by rfl) (by rfl) (by rfl) (at9 c 6).2.2.2 (at9 c 6).2.2.2 (at9 c 6).2.2.2 (by rfl) 0 (by rfl) (by intros; rfl) (by intros; rfl) (goes c true 7) (by rfl) (by rfl) (by rfl) (by rfl) fun _ _ _ _ => ?_
  refine st_round m K c (t := at2 30 26) (t' := at2 30 30) (n := 8) false 6 7 6 7 (by rfl) (by rfl) (by rfl) (by rfl) (by rfl) (by rfl) (by decide) (by rfl) (by rfl) (by rfl) (by rfl) (by rfl) (at13 c 6).2.2.2 (at13 c 6).2.2.2 (at13 c 6).2.2.2 (by rfl) 0 (by rfl) (by intros; rfl) (by intros; rfl) (goes c false 7) (by rfl) (by rfl) (by rfl) (by rfl) fun _ _ _ _ => ?_
  refine st_gather m K c (t := at2 30 30) (t' := at2 34 30) true 0 (by decide) 7 8 (by rfl) (by rfl) (by rfl) (by rfl) (by rfl) (by decide) (by rfl) (by rfl) (by rfl) (by rfl) (goes c true 8) (by rfl) (by rfl) (by rfl) (by rfl) (at17 c 0).1 (at17 c 0).1 1 (by rfl) (by intros; rfl) fun _ _ => ?_
  refine st_gather m K c (t := at2 34 30) (t' := at2 34 34) false 0 (by decide) 7 8 (by rfl) (by rfl) (by rfl) (by rfl) (by rfl) (by decide) (by rfl) (by rfl) (by rfl) (by rfl) (goes c false 8) (by rfl) (by rfl) (by rfl) (by rfl) (at17 c 0).2 (at17 c 0).2 1 (by rfl) (by intros; rfl) fun _ _ => ?_
  refine st_gather m K c (t := at2 34 34) (t' := at2 38 34) true 1 (by decide) 8 9 (by rfl) (by rfl) (by rfl) (by rfl) (by rfl) (by decide) (by rfl) (by rfl) (by rfl) (by rfl) (goes c true 9) (by rfl) (by rfl) (by rfl) (by rfl) (at17 c 1).1 (at17 c 1).1 2 (by rfl) (by intros; rfl) fun _ _ => ?_
  refine st_gather m K c (t := at2 38 34) (t' := at2 38 38) false 1 (by decide) 8 9 (by rfl) (by rfl) (by rfl) (by rfl) (by rfl) (by decide) (by rfl) (by rfl) (by rfl) (by rfl) (goes c false 9) (by rfl) (by rfl) (by rfl) (by rfl) (at17 c 1).2 (at17 c 1).2 2 (by rfl) (by intros; rfl) fun _ _ => ?_
  refine st_gather m K c (t := at2 38 38) (t' := at2 42 38) true 2 (by decide) 9 10 (by rfl) (by rfl) (by rfl) (by rfl) (by rfl) (by decide) (by rfl) (by rfl) (by rfl) (by rfl) (goes c true 10) (by rfl) (by rfl) (by rfl) (by rfl) (at17 c 2).1 (at17 c 2).1 3 (by rfl) (by intros; rfl) fun _ _ => ?_
  refine st_gather m K c (t := at2 42 38) (t' := at2 42 42) false 2 (by decide) 9 10 (by rfl) (by rfl) (by rfl) (by rfl) (by rfl) (by decide) (by rfl) (by rfl) (by rfl) (by rfl) (goes c false 10) (by rfl) (by rfl) (by rfl) (by rfl) (at17 c 2).2 (at17 c 2).2 3 (by rfl) (by intros; rfl) fun _ _ => ?_
  refine st_gather m K c (t := at2 42 42) (t' := at2 46 42) true 3 (by decide) 10 11 (by rfl) (by rfl) (by rfl) (by rfl) (by rfl) (by decide) (by rfl) (by rfl) (by rfl) (by rfl) (goes c true 11) (by rfl) (by rfl) (by rfl) (by rfl) (at17 c 3).1 (at17 c 3).1 4 (by rfl) (by intros; rfl) fun _ _ => ?_
  refine st_gather m K c (t := at2 46 42) (t' := at2 46 46) false 3 (by decide) 10 11 (by rfl) (by rfl) (by rfl) (by rfl) (by rfl) (by decide) (by rfl) (by rfl) (by rfl) (by rfl) (goes c false 11) (by rfl) (by rfl) (by rfl) (by rfl) (at17 c 3).2 (at17 c 3).2 4 (by rfl) (by intros; rfl) fun _ _ => ?_
  refine st_gather m K c (t := at2 46 46) (t' := at2 50 46) true 4 (by decide) 11 12 (by rfl) (by rfl) (by rfl) (by rfl) (by rfl) (by decide) (by rfl) (by rfl) (by rfl) (by rfl) (goes c true 12) (by rfl) (by rfl) (by rfl) (by rfl) (at17 c 4).1 (at17 c 4).1 5 (by rfl) (by intros; rfl) fun _ _ => ?_
  refine st_gather m K c (t := at2 50 46) (t' := at2 50 50) false 4 (by decide) 11 12 (by rfl) (by rfl) (by rfl) (by rfl) (by rfl) (by decide) (by rfl) (by rfl) (by rfl) (by rfl) (goes c false 12) (by rfl) (by rfl) (by rfl) (by rfl) (at17 c 4).2 (at17 c 4).2 5 (by rfl) (by intros; rfl) fun _ _ => ?_
  refine st_gather m K c (t := at2 50 50) (t' := at2 54 50) true 5 (by decide) 12 13 (by rfl) (by rfl) (by rfl) (by rfl) (by rfl) (by decide) (by rfl) (by rfl) (by rfl) (by rfl) (goes c true 13) (by rfl) (by rfl) (by rfl) (by rfl) (at17 c 5).1 (at17 c 5).1 6 (by rfl) (by intros; rfl) fun _ _ => ?_
  refine st_gather m K c (t := at2 54 50) (t' := at2 54 54) false 5 (by decide) 12 13 (by rfl) (by rfl) (by rfl) (by rfl) (by rfl) (by decide) (by rfl) (by rfl) (by rfl) (by rfl) (goes c false 13) (by rfl) (by rfl) (by rfl) (by rfl) (at17 c 5).2 (at17 c 5).2 6 (by rfl) (by intros; rfl) fun _ _ => ?_
  refine st_last m K c (t := at2 54 54) (t' := at2 56 54) true (by rfl) (by rfl) (by rfl) (by decide) (by rfl) (by rfl) (by rfl) (by rfl) (at17 c 6).1 (at17 c 6).1 (by rfl) (by intros; rfl) fun _ _ => ?_
  refine st_last m K c (t := at2 56 54) (t' := at2 56 56) false (by rfl) (by rfl) (by rfl) (by decide) (by rfl) (by rfl) (by rfl) (by rfl) (at17 c 6).2 (at17 c 6).2 (by rfl) (by intros; rfl) fun _ _ => ?_
  refine st_ret m K c (funext fun d => by cases d <;> rfl) (funext fun q => ?_)
  obtain ⟨d, s⟩ := q
  cases d <;> fin_cases s <;> rfl

end Cert.Proof

end
-- ==== Proof.Slots.lean ====
/-

  The buffers of tiles, whole and tile by tile: at the launch each scratch buffer is split into the tiles the transfers
  name, at the end the tiles are joined again.

-/
module

public import proofs.«01_k».proof.Proof.Body
public import Idealize.ShloMosaic.Lib.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

theorem big_mono {I : Type} {S : Finset I} {Φ Ψ : I → sProp 𝕄} (h : ∀ i ∈ S, Φ i ⊢ Ψ i) : bigSep S Φ ⊢ bigSep S Ψ := bigSep_mono h

/-! ## One buffer -/

section Buffer
variable {n : ℕ} (M : Memref sig .tc .vmem (Sn n) .bf16)

theorem slots_disj (k k' : Fin n) (h : k ≠ k') :
    Disjoint (slot M k).view.set (slot M k').view.set := by
  rw [slot_set, slot_set, View.set_slice, View.set_slice, Finset.disjoint_map, Finset.disjoint_left]
  intro i hi hi'
  rw [Rect.mem_set_unit] at hi hi'
  have h0 := hi 0; have h1 := hi' 0
  simp [Shape.size] at h0 h1
  exact h (Fin.ext (by omega))

theorem slots_cover : (Finset.univ.biUnion fun k : Fin n => (slot M k).view.set) = M.view.set := by
  ext i
  rw [Finset.mem_biUnion]
  constructor
  · rintro ⟨k, -, hk⟩
    rw [slot_set] at hk
    exact View.set_slice_subset _ _ hk
  · intro hi
    rw [View.set, Finset.mem_map] at hi
    obtain ⟨x, -, rfl⟩ := hi
    refine ⟨⟨(x 0).val, (x 0).isLt⟩, Finset.mem_univ _, ?_⟩
    rw [slot_set, View.set_slice]
    refine Finset.mem_map_of_mem _ ?_
    rw [Rect.mem_set_unit]
    have h1 : (x 1).val < 128 := (x 1).isLt
    have h2 : (x 2).val < 1024 := (x 2).isLt
    intro a
    fin_cases a
    · simp [Shape.size]
    · simp [Shape.size]; exact h1
    · simp [Shape.size]; exact h2

/-- A buffer held whole is held tile by tile, -/
theorem slots_split : iprop(∃ f, M.view.loc (c : Thread nD τ) ↦[M.view.set]{fullShare} f)
    ⊢ (bigSep Finset.univ fun k : Fin n => tileAny (F := F) c (slot M k)) := by
  iintro ⟨%f, H⟩
  ihave H := (Entails.of_eq (Ring.pointsTo_sub_blocks (ℓ := M.view.loc (c : Thread nD τ)) (fun k : Fin n => (slot M k).view.set)
    (slots_disj M) M.view.set (slots_cover M) f)) $$ H
  have e : ∀ k ∈ (Finset.univ : Finset (Fin n)), (M.view.loc (c : Thread nD τ) ↦[(slot M k).view.set]{fullShare} f : sProp 𝕄) ⊢ tileAny (F := F) c (slot M k) := fun k _ => by
    unfold tileAny tileAt owns
    iintro H
    iexists ((slot M k).view.read (Elt F) f)
    iexists f
    isplitr; · ipureintro; rfl
    iexact H
  iapply (big_mono (S := Finset.univ) e)
  iexact H

/-- and tiles join to the buffer. -/
theorem slots_join (f₀ : Buf (Elt F) (M.view.loc (c : Thread nD τ))) : (bigSep Finset.univ fun k : Fin n => tileAny (F := F) c (slot M k))
    ⊢ iprop(∃ f, M.view.loc (c : Thread nD τ) ↦[M.view.set]{fullShare} f) := by
  refine BIBase.Entails.trans (big_mono (S := Finset.univ) (Ψ := fun k => iprop(∃ f, M.view.loc (c : Thread nD τ) ↦[(slot M k).view.set]{fullShare} f)) fun k _ => ?_)
    (Ring.pointsTo_sub_blocks_join_exists (ℓ := M.view.loc (c : Thread nD τ)) (fun k : Fin n => (slot M k).view.set)
      (slots_disj M) M.view.set (slots_cover M) f₀)
  unfold tileAny tileAt owns
  iintro ⟨%X, %f, -, H⟩
  iexists f
  iexact H

end Buffer

/-! ## The transfers' tiles -/

theorem bigSep_add {a b : ℕ} (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  rfl
theorem sep_eq {P P' Q Q' : sProp 𝕄} (h : P = P') (h' : Q = Q') : iprop(P ∗ Q) = iprop(P' ∗ Q') := by subst h h'; rfl
theorem bigSep_one (Φ : Fin 1 → sProp 𝕄) : bigSep Finset.univ Φ = Φ 0 := by
  rw [bigSep_univ_eq_bigSepL [0] (by decide) (by decide), bigSepL_singleton]

abbrev lo (i : Fin 7) : Fin 14 := Fin.castAdd (m := 7) (n := 7) i
abbrev hi (i : Fin 7) : Fin 14 := Fin.natAdd (m := 7) 7 i

theorem src_lo (d : Bool) (i : Fin 7) : srcM d (lo i) = slot (stM d) i := dif_pos i.isLt
theorem dst_lo (d : Bool) (i : Fin 7) : dstM d (lo i) = slot (cmM d) i := dif_pos i.isLt
abbrev ag (i : Fin 7) : Fin 8 := ⟨i.val, by omega⟩
abbrev ag' (i : Fin 7) : Fin 8 := ⟨i.val + 1, by omega⟩
theorem dst_hi (d : Bool) (i : Fin 7) : dstM d (hi i) = slot (agM d) (ag' i) := by
  have h : ¬ (hi i).val < 7 := by simp [hi]
  unfold dstM; rw [dif_neg h]
  congr 1
  exact Fin.ext (by simp only [hi, Fin.val_natAdd]; omega)
theorem src_hi (d : Bool) (i : Fin 7) : srcM d (hi i) = slot (agM d) (ag i) := by
  have h : ¬ (hi i).val < 7 := by simp [hi]
  unfold srcM; rw [dif_neg h]
  congr 1
  exact Fin.ext (by simp [hi])

/-- The three buffers of a direction, at any contents. -/
def bufs (d : Bool) : sProp 𝕄 :=
  iprop((∃ f, (cmM d).view.loc (c : Thread nD τ) ↦[(cmM d).view.set]{fullShare} f)
    ∗ (∃ f, (stM d).view.loc (c : Thread nD τ) ↦[(stM d).view.set]{fullShare} f)
    ∗ ∃ f, (agM d).view.loc (c : Thread nD τ) ↦[(agM d).view.set]{fullShare} f)

theorem lands_eq (d : Bool) : lands (F := F) c d = iprop((bigSep Finset.univ fun i : Fin 7 => tileAny (F := F) c (slot (cmM d) i))
    ∗ bigSep Finset.univ fun i : Fin 7 => tileAny (F := F) c (slot (agM d) (ag' i))) := by
  unfold lands
  rw [bigSep_add (a := 7) (b := 7)]
  refine sep_eq ?_ ?_
  · exact bigSep_congr fun i _ => by rw [dst_lo d i]
  · exact bigSep_congr fun i _ => by rw [dst_hi d i]

theorem srcs_eq (d : Bool) : (bigSep Finset.univ fun j : Fin 14 => src0 (F := F) c (d, j))
    = iprop((bigSep Finset.univ fun i : Fin 7 => tileAny (F := F) c (slot (stM d) i)) ∗ tileAny (F := F) c (slot (agM d) 0)) := by
  rw [bigSep_add (a := 7) (b := 7)]
  refine sep_eq ?_ ?_
  · refine bigSep_congr fun i _ => ?_
    unfold src0
    rw [if_pos (by have := i.isLt; simp only [lo, Fin.val_castAdd]; omega)]
    show tileAny c (srcM d (lo i)) = _
    rw [src_lo d i]
  · rw [bigSep_add (a := 1) (b := 6), bigSep_one]
    have h0 : src0 (F := F) c (d, hi 0) = tileAny (F := F) c (slot (agM d) 0) := by
      unfold src0
      rw [if_pos (show (hi 0).val < 8 by decide)]
      show tileAny c (srcM d (hi 0)) = _
      rw [src_hi d 0]; rfl
    have h1 : (bigSep Finset.univ fun i : Fin 6 => src0 (F := F) c (d, hi (Fin.natAdd 1 i))) = (iprop(emp) : sProp 𝕄) := by
      rw [bigSep_congr (Ψ := fun _ => (iprop(emp) : sProp 𝕄)) fun i _ => by unfold src0; exact if_neg (by simp [hi])]
      exact bigSep_emp_const _
    have h2 : ∀ P : sProp 𝕄, iprop(P ∗ emp) = P := fun P => by
      have a : iprop(P ∗ emp) ⊢ P := by iintro ⟨H, -⟩; iexact H
      have b : P ⊢ iprop(P ∗ emp) := by
        iintro H
        isplitl [H]; · iexact H
        iempintro
      exact BI.Entails.antisymm a b
    exact (sep_eq h0 h1).trans (h2 _)

theorem gather_eq (d : Bool) : (bigSep Finset.univ fun k : Fin 8 => tileAny (F := F) c (slot (agM d) k))
    = iprop(tileAny (F := F) c (slot (agM d) 0) ∗ bigSep Finset.univ fun i : Fin 7 => tileAny (F := F) c (slot (agM d) (ag' i))) := by
  rw [bigSep_add (a := 1) (b := 7), bigSep_one]
  refine sep_eq rfl ?_
  exact bigSep_congr fun i _ => by
    rw [show (Fin.natAdd 1 i : Fin 8) = ag' i from Fin.ext (by simp [Nat.add_comm])]

/-- At the launch: a direction's buffers are its landing tiles and its sources. -/
theorem bufs_split (d : Bool) : bufs (F := F) c d ⊢ iprop(lands (F := F) c d ∗ bigSep Finset.univ fun j : Fin 14 => src0 (F := F) c (d, j)) := by
  rw [lands_eq, srcs_eq]
  unfold bufs
  iintro ⟨H1, H2, H3⟩
  ihave H1 := (slots_split (F := F) c (cmM d)) $$ H1
  ihave H2 := (slots_split (F := F) c (stM d)) $$ H2
  ihave H3 := ((slots_split (F := F) c (agM d)).trans (Entails.of_eq (gather_eq c d))) $$ H3
  icases H3 with ⟨H3, H4⟩
  isplitl [H1 H4]
  · isplitl [H1] <;> iassumption
  isplitl [H2] <;> iassumption

/-- At the end: the same tiles, all of them, join to the buffers. -/
theorem bufs_join (d : Bool) (f₁ : Buf (Elt F) ((cmM d).view.loc (c : Thread nD τ))) (f₂ : Buf (Elt F) ((stM d).view.loc (c : Thread nD τ)))
    (f₃ : Buf (Elt F) ((agM d).view.loc (c : Thread nD τ))) :
    iprop(lands (F := F) c d ∗ bigSep Finset.univ fun j : Fin 14 => src0 (F := F) c (d, j)) ⊢ bufs (F := F) c d := by
  rw [lands_eq, srcs_eq]
  unfold bufs
  iintro ⟨⟨H1, H4⟩, H2, H3⟩
  isplitl [H1]; · iapply (slots_join c (cmM d) f₁); iexact H1
  isplitl [H2]; · iapply (slots_join c (stM d) f₂); iexact H2
  iapply ((Entails.of_eq (gather_eq c d).symm).trans (slots_join c (agM d) f₃))
  isplitl [H3] <;> iassumption

/-! ## The end of a direction -/

/-- The tiles of transfer `j` when all is done: its source, its landing tile; in the all-gather, by their shares. -/
def endS (d : Bool) (j : Fin 14) : sProp 𝕄 := sendPay m c (d, j)
def endD (d : Bool) (j : Fin 14) : sProp 𝕄 :=
  if 7 ≤ j.val ∧ j.val < 13 then tileAt c (dstM d j) fullShare.left (VV m d j.val (nbr (!d) c)) else recvPay m c (d, j)

theorem end_at (p : CP) : A m c p (phs (fun _ => 56) p)
    = iprop(semVal (sendCell p c) 0 ∗ endS m c p.1 p.2 ∗ semVal (recvCell p c) 0 ∗ endD m c p.1 p.2) := by
  obtain ⟨d, j⟩ := p
  unfold endS endD
  have hj := j.isLt
  by_cases h : 7 ≤ j.val ∧ j.val < 13
  · rw [show phs (fun _ => 56) (d, j) = 5 from by unfold phs ph; simp only; rw [if_pos ⟨h.1, h.2, by omega⟩], A_5]
    simp only [if_pos h]
  · rw [show phs (fun _ => 56) (d, j) = 4 from by unfold phs ph; simp only; rw [if_neg (by omega)]; omega, A_4]
    simp only [if_neg h]

theorem any_of (M : Memref sig .tc .vmem S128x1024 .bf16) (X : FVec F S128x1024 .bf16) : tileAt c M fullShare X ⊢ tileAny (F := F) c M := by
  unfold tileAny; iintro H; iexists X; iexact H

theorem endS_lo (d : Bool) (i : Fin 7) : endS m c d (lo i) ⊢ src0 (F := F) c (d, lo i) := by
  have hi : (lo i).val < 8 := by have := i.isLt; simp only [lo, Fin.val_castAdd]; omega
  unfold endS sendPay src0 shr
  simp only [if_pos hi]
  exact any_of c _ _
theorem endD_lo (d : Bool) (i : Fin 7) : endD m c d (lo i) ⊢ tileAny (F := F) c (dstM d (lo i)) := by
  have hi : ¬ (7 ≤ (lo i).val ∧ (lo i).val < 13) := by have := i.isLt; simp only [lo, Fin.val_castAdd]; omega
  unfold endD recvPay
  rw [if_neg hi]
  exact any_of c _ _
theorem endS_first (d : Bool) : endS m c d (hi 0) ⊢ src0 (F := F) c (d, hi 0) := by
  have h : (hi 0).val < 8 := by decide
  unfold endS sendPay src0 shr
  simp only [if_pos h]
  exact any_of c _ _
theorem endD_last (d : Bool) : endD m c d (hi 6) ⊢ tileAny (F := F) c (dstM d (hi 6)) := by
  have h : ¬ (7 ≤ (hi 6).val ∧ (hi 6).val < 13) := by decide
  unfold endD recvPay
  rw [if_neg h]
  exact any_of c _ _
/-- A landing tile lent on: its left half, and its right half as the next transfer's source. -/
theorem end_mid (d : Bool) (i : Fin 6) : iprop(endS m c d (hi (Fin.natAdd 1 i)) ∗ endD m c d (hi (Fin.castAdd 1 i)))
    ⊢ tileAny (F := F) c (dstM d (hi (Fin.castAdd 1 i))) := by
  have h1 : ¬ (hi (Fin.natAdd 1 i)).val < 8 := by simp [hi]
  have h2 : 7 ≤ (hi (Fin.castAdd 1 i)).val ∧ (hi (Fin.castAdd 1 i)).val < 13 := by have := i.isLt; simp [hi]; omega
  have h3 : dstM d (hi (Fin.castAdd 1 i)) = srcM d (hi (Fin.natAdd 1 i)) := dst_eq_src d _ _ h2.1 (by simp [hi]; omega)
  unfold endS sendPay endD shr
  simp only [if_pos h2, if_neg h1]
  rw [← h3]
  iintro ⟨H1, H2⟩
  iapply (any_of c _ _)
  iapply (tile_join c _ _ _)
  isplitl [H2]; · iexact H2
  iexact H1

theorem end_tiles (d : Bool) : iprop((bigSep Finset.univ fun j : Fin 14 => endS m c d j) ∗ bigSep Finset.univ fun j : Fin 14 => endD m c d j)
    ⊢ iprop(lands (F := F) c d ∗ bigSep Finset.univ fun j : Fin 14 => src0 (F := F) c (d, j)) := by
  have ed : ∀ Φ : Fin 14 → sProp 𝕄, bigSep Finset.univ Φ = iprop((bigSep Finset.univ fun i : Fin 7 => Φ (lo i))
      ∗ (bigSep Finset.univ fun i : Fin 6 => Φ (hi (Fin.castAdd 1 i))) ∗ Φ (hi 6)) := fun Φ => by
    rw [bigSep_add (a := 7) (b := 7), bigSep_add (a := 6) (b := 1) (fun i => Φ (Fin.natAdd 7 i)), bigSep_one]; rfl
  have es : ∀ Φ : Fin 14 → sProp 𝕄, bigSep Finset.univ Φ = iprop((bigSep Finset.univ fun i : Fin 7 => Φ (lo i))
      ∗ Φ (hi 0) ∗ (bigSep Finset.univ fun i : Fin 6 => Φ (hi (Fin.natAdd 1 i)))) := fun Φ => by
    rw [bigSep_add (a := 7) (b := 7), bigSep_add (a := 1) (b := 6) (fun i => Φ (Fin.natAdd 7 i)), bigSep_one]; rfl
  have h1 : (iprop(emp) : sProp 𝕄) ⊢ bigSep Finset.univ fun i : Fin 6 => src0 (F := F) c (d, hi (Fin.natAdd 1 i)) := by
    rw [bigSep_congr (Ψ := fun _ => (iprop(emp) : sProp 𝕄)) fun i _ => by unfold src0; exact if_neg (by simp [hi])]
    exact Entails.of_eq (bigSep_emp_const _).symm
  unfold lands
  rw [ed (fun j => endD m c d j), ed (fun j => tileAny (F := F) c (dstM d j)), es (fun j => endS m c d j), es (fun j => src0 (F := F) c (d, j))]
  iintro ⟨⟨S1, S2, S3⟩, D1, D2, D3⟩
  isplitl [D1 S3 D2 D3]
  · isplitl [D1]; · iapply (big_mono (S := Finset.univ) fun i _ => endD_lo m c d i); iexact D1
    isplitl [S3 D2]
    · iapply (big_mono (S := Finset.univ) fun i _ => end_mid m c d i)
      rw [bigSep_sep']
      isplitl [S3] <;> iassumption
    iapply (endD_last m c d); iexact D3
  isplitl [S1]; · iapply (big_mono (S := Finset.univ) fun i _ => endS_lo m c d i); iexact S1
  isplitl [S2]; · iapply (endS_first m c d); iexact S2
  iapply h1; iempintro

/-- All transfers done: every send and receive semaphore at zero, every buffer whole. -/
theorem ResA_end (g₁ : ∀ d, Buf (Elt F) ((cmM d).view.loc (c : Thread nD τ))) (g₂ : ∀ d, Buf (Elt F) ((stM d).view.loc (c : Thread nD τ)))
    (g₃ : ∀ d, Buf (Elt F) ((agM d).view.loc (c : Thread nD τ))) :
    ResA m c (phs fun _ => 56) ⊢ iprop(((bigSep Finset.univ fun p : CP => semVal (sendCell p c) 0) ∗ bigSep Finset.univ fun p : CP => semVal (recvCell p c) 0)
      ∗ bufs (F := F) c true ∗ bufs (F := F) c false) := by
  unfold ResA
  rw [bigSep_congr fun p _ => end_at m c p, bigSep_sep', bigSep_sep', bigSep_sep',
    bigSep_univ_prod (fun p : CP => endS m c p.1 p.2), bigSep_univ_prod (fun p : CP => endD m c p.1 p.2), sep_bool, sep_bool (fun d => bigSep Finset.univ fun j : Fin 14 => endD m c d j)]
  iintro ⟨Hs, ⟨S1, S2⟩, Hr, D1, D2⟩
  isplitl [Hs Hr]
  · isplitl [Hs] <;> iassumption
  isplitl [S1 D1]
  · iapply ((end_tiles m c true).trans (bufs_join c true (g₁ true) (g₂ true) (g₃ true)))
    isplitl [S1] <;> iassumption
  iapply ((end_tiles m c false).trans (bufs_join c false (g₁ false) (g₂ false) (g₃ false)))
  isplitl [S2] <;> iassumption

/-- A direction's buffers as the launch names them. -/
theorem bufs_true : bufs (F := F) c true
    = iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)
      ∗ ∃ f : Buf (Elt F) ((c : Thread nD τ).loc cc0_scratch4), ((c : Thread nD τ).loc cc0_scratch4) ↦{fullShare} f) := by
  unfold bufs; simp only [cmM, stM, agM, Memref.view_whole, View.set_whole]
theorem bufs_false : bufs (F := F) c false
    = iprop((∃ f : Buf (Elt F) ((c : Thread nD τ).loc cc0_scratch1), ((c : Thread nD τ).loc cc0_scratch1) ↦{fullShare} f)
      ∗ (∃ f : Buf (Elt F) ((c : Thread nD τ).loc cc0_scratch3), ((c : Thread nD τ).loc cc0_scratch3) ↦{fullShare} f)
      ∗ ∃ f : Buf (Elt F) ((c : Thread nD τ).loc cc0_scratch5), ((c : Thread nD τ).loc cc0_scratch5) ↦{fullShare} f) := by
  unfold bufs; simp only [cmM, stM, agM, Memref.view_whole, View.set_whole]

end Cert.Proof

end
-- ==== Proof.Launch.lean ====
/-

  The launch: the pipeline's proof data, the body's obligation, the protocol's cells and tokens dealt to the eight devices,
  and the run of the whole program (`run_main`).

-/
module

public import proofs.«01_k».proof.Proof.Slots
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-! ## The result -/

theorem tile_of (i : S2048x1024.Idx) : ∃ q : (Bool × Fin 8) × S128x1024.Idx, (oR (tidx c q.1.1 q.1.2.val)).emb q.2 = i := by
  have h0 : (i 0).val < 2048 := (i 0).isLt
  have h1 : (i 1).val < 1024 := (i 1).isLt
  obtain ⟨d, s, hs⟩ := tidx_surj c ⟨(i 0).val / 128, by omega⟩
  have hi : i ∈ (oR (tidx c d s.val)).set := by
    rw [hs, Rect.mem_set_unit]
    intro a
    fin_cases a
    · simp [Shape.size]; omega
    · simp [Shape.size]; exact h1
  rw [← Rect.map_emb_univ, Finset.mem_map] at hi
  obtain ⟨j, -, hj⟩ := hi
  exact ⟨((d, s), j), hj⟩

/-- Which tile an entry of the result lies in, and where in the tile. -/
def place (i : S2048x1024.Idx) : (Bool × Fin 8) × S128x1024.Idx := Classical.choose (tile_of c i)
theorem place_emb (i : S2048x1024.Idx) : (oR (tidx c (place c i).1.1 (place c i).1.2.val)).emb (place c i).2 = i := Classical.choose_spec (tile_of c i)

theorem oTile_apply (f : (cc0_stg4_0 : Ref sig .tc).ty.Contents (Elt F)) (h : Fin 16) (j : S128x1024.Idx) : oTile f h j = f ((oR h).emb j) := rfl

theorem emb_tile {h h' : Fin 16} {j j' : S128x1024.Idx} (e : (oR h).emb j = (oR h').emb j') : h = h' ∧ j = j' := by
  have hh : h = h' := by
    by_contra hne
    have hd := oR_disj hne
    have m1 : (oR h).emb j ∈ (outM.access (oR h) : View sig .tc _ _ _).set := by
      rw [View.set_slice]
      exact Finset.mem_map_of_mem _ ((oR h).map_emb_univ ▸ Finset.mem_map_of_mem _ (Finset.mem_univ j))
    have m2 : (oR h).emb j ∈ (outM.access (oR h') : View sig .tc _ _ _).setOn Finset.univ := by
      show _ ∈ (outM.access (oR h') : View sig .tc _ _ _).set
      rw [View.set_slice, e]
      exact Finset.mem_map_of_mem _ ((oR h').map_emb_univ ▸ Finset.mem_map_of_mem _ (Finset.mem_univ j'))
    exact Finset.disjoint_left.mp hd m1 m2
  subst hh
  exact ⟨rfl, (oR h).emb.injective e⟩

/-- The result of device `c`: on each tile, what the ring has summed there. -/
def outAt : (cc0_stg4_0 : Ref sig .tc).ty.Contents (Elt F) := fun i => FO m c (place c i).1 (place c i).2

theorem oTile_outAt (p : Bool × Fin 8) : oTile (outAt m c) (tidx c p.1 p.2.val) = FO m c p := by
  funext j
  rw [oTile_apply]
  have e := emb_tile (place_emb c ((oR (tidx c p.1 p.2.val)).emb j))
  have e1 := tidx_inj c e.1
  unfold outAt
  rw [e.2, show (place c ((oR (tidx c p.1 p.2.val)).emb j)).1 = p from Prod.ext e1.1 e1.2]

theorem outAt_unique (f : (cc0_stg4_0 : Ref sig .tc).ty.Contents (Elt F)) (h : ∀ p, oTile f (tidx c p.1 p.2.val) = FO m c p) : f = outAt m c := by
  funext i
  unfold outAt
  rw [← h, oTile_apply, place_emb]

/-! ## The pipeline's proof data -/

/-- The duties a device pays: its signals to both neighbours, its transfers' read-outs and landings. -/
def payToks : sProp 𝕄 :=
  iprop((dutyTok ER (barCell (nbr false c)) 0 true ∗ dutyTok ER (barCell (nbr true c)) 0 false)
    ∗ (bigSep Finset.univ fun p : CP => dutyTok ER (sendCell p c) 0 false)
    ∗ bigSep Finset.univ fun p : CP => dutyTok ER (recvCell p (nbr p.1 c)) 0 false)
/-- What is one device's alone: its cells' positions, the duties it pays. -/
def linear : sProp 𝕄 := iprop((bigSep Finset.univ fun k : Option CI => atPos ER (kcell (c, k)) 0 ∅ 0) ∗ payToks c)
/-- What comes to it: two signals, and the landings. -/
def creds : sProp 𝕄 := iprop(cred (tallyAt (barCell c) () 2) ∗ bigSep Finset.univ fun p : CP => cred (tallyAt (recvCell p c) () N))

/-- What everyone knows, at the names `K`, without the levels. -/
def recs₀ (K : Dev nD × Option CI → ℕ) : sProp 𝕄 :=
  iprop((bigSep Finset.univ fun ck : Dev nD × Option CI => cellInv ER (ringRd m) (K ck) (kcell ck))
    ∗ bigSep Finset.univ fun ck : Dev nD × Option CI => reached ER (kcell ck) 0)
instance recs₀_persistent (K : Dev nD × Option CI → ℕ) : BI.Persistent (recs₀ (F := F) m K) := by unfold recs₀; infer_instance

def start : sProp 𝕄 := iprop((∃ K, recs₀ m K ∗ linear c) ∗ creds c ∗ levAts L lv)

def Φ₀ : sProp 𝕄 := iprop(start m c ∗ bufs (F := F) c true ∗ bufs (F := F) c false)
def Φ₁ : sProp 𝕄 := iprop(ResA m c (phs fun _ => 56) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rwstg m c
    | ⟨2, _⟩ => ixstg m c
    | ⟨3, _⟩ => ewstg m c
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

abbrev t₀ : Fin cfg0.N := t0_0

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

theorem owed_end : owed c (fun _ => 56) = 0 := by
  unfold owed
  exact Finset.sum_eq_zero fun p _ => if_neg (by have := p.2.isLt; dsimp only; omega)

theorem bigSep_opt {I : Type} [Fintype I] (Φ : Option I → sProp 𝕄) :
    bigSep Finset.univ Φ = iprop(Φ none ∗ bigSep Finset.univ fun x : I => Φ (some x)) := by
  rw [bigSep_univ_equiv (Equiv.optionEquivSumPUnit I).symm Φ, bigSep_univ_sum, bigSep_univ_eq_bigSepL (I := PUnit.{1}) [PUnit.unit] (by decide) (by decide), bigSepL_singleton]
  have a : ∀ P Q : sProp 𝕄, iprop(P ∗ Q) ⊢ iprop(Q ∗ P) := fun P Q => by
    iintro ⟨H1, H2⟩
    isplitl [H2] <;> iassumption
  exact BI.Entails.antisymm (a _ _) (a _ _)

theorem bigSep_ci (Φ : CI → sProp 𝕄) :
    bigSep Finset.univ Φ = iprop((bigSep Finset.univ fun p : CP => Φ (true, p)) ∗ bigSep Finset.univ fun p : CP => Φ (false, p)) := by
  rw [bigSep_univ_prod Φ, sep_bool]

/-- All that the body starts from. -/
theorem start_of (K : Dev nD × Option CI → ℕ) :
    iprop(recs₀ m K ∗ linear c ∗ creds c ∗ levAts L lv ∗ (bufs (F := F) c true ∗ bufs (F := F) c false) ∗ (∃ W, owes (c : Thread nD τ) (O₀ c) W))
      ⊢ Start m K c := by
  have eP : (bigSep Finset.univ fun p : CP => iprop(pend (F := F) c p ∗ rcv (F := F) c p ∗ src0 (F := F) c p))
      = iprop(((bigSep Finset.univ fun p : CP => dutyTok ER (sendCell p c) 0 false) ∗ (bigSep Finset.univ fun p : CP => dutyTok ER (recvCell p (nbr p.1 c)) 0 false)
          ∗ (bigSep Finset.univ fun p : CP => atPos ER (sendCell p c) 0 ∅ 0))
        ∗ ((bigSep Finset.univ fun p : CP => cred (tallyAt (recvCell p c) () N)) ∗ (bigSep Finset.univ fun p : CP => atPos ER (recvCell p c) 0 ∅ 0))
        ∗ ((bigSep Finset.univ fun j : Fin 14 => src0 (F := F) c (true, j)) ∗ bigSep Finset.univ fun j : Fin 14 => src0 (F := F) c (false, j))) := by
    unfold pend rcv
    rw [bigSep_sep', bigSep_sep', bigSep_sep', bigSep_sep', bigSep_sep', bigSep_univ_prod (fun p : CP => src0 (F := F) c p), sep_bool]
  have eA : (bigSep Finset.univ fun k : Option CI => (atPos ER (kcell (c, k)) 0 ∅ 0 : sProp 𝕄))
      = iprop(atPos ER (barCell c) 0 ∅ 0 ∗ (bigSep Finset.univ fun p : CP => atPos ER (recvCell p c) 0 ∅ 0) ∗ bigSep Finset.univ fun p : CP => atPos ER (sendCell p c) 0 ∅ 0) := by
    rw [bigSep_opt, bigSep_ci]
  unfold linear payToks creds Start recs recs₀
  rw [eP, eA]
  iintro ⟨⟨HI, HR⟩, ⟨⟨Ha, Har, Has⟩, Hb, Hts, Htr⟩, ⟨Hcb, Hcr⟩, HL, ⟨B1, B2⟩, HO⟩
  ihave B1 := (bufs_split (F := F) c true) $$ B1
  ihave B2 := (bufs_split (F := F) c false) $$ B2
  icases B1 with ⟨L1, S1⟩
  icases B2 with ⟨L2, S2⟩
  isplitl [HI HR HL]
  · isplitl [HI]; · iexact HI
    isplitl [HR] <;> iassumption
  isplitl [Hts Htr Has Hcr Har S1 S2]
  · isplitl [Hts Htr Has]
    · isplitl [Hts]; · iexact Hts
      isplitl [Htr] <;> iassumption
    isplitl [Hcr Har]
    · isplitl [Hcr] <;> iassumption
    isplitl [S1] <;> iassumption
  isplitl [L1 L2]
  · isplitl [L1] <;> iassumption
  isplitl [Hb]; · iexact Hb
  isplitl [Ha Hcb]
  · isplitl [Ha] <;> iassumption
  iexact HO

set_option maxRecDepth 4000 in
def bodyPre : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost : sProp 𝕄 :=
  iprop(Φ₁ m c ∗ (dats m ρ 0 c).owesAt () t₀.succ ∗ stg c cc0_stg0_0 (xstg m c) ∗ stg c cc0_stg1_0 (rwstg m c) ∗ stg c cc0_stg2_0 (ixstg m c)
    ∗ stg c cc0_stg3_0 (ewstg m c) ∗ stg c cc0_stg4_0 (outAt m c))

theorem fetch_in (w : Fin 5) (h : w ≠ 4) : (cfg0.win w).fetch t₀ = true := by
  fin_cases w <;> first | rfl | exact absurd rfl h

theorem post_of (K : Dev nD × Option CI → ℕ) : iprop(St m K c (fun _ => 56) (FO m c) ∗ semVal (barCell c) 0) ⊢ bodyPost m ρ c := by
  unfold St Ow Ins Out bodyPost Φ₁ Dat.owesAt Pipeline.owesWithin
  rw [show (dats m ρ 0 c).owed t₀.succ = 0 from rfl, owed_end]
  iintro ⟨⟨-, HA, ⟨%W, HO⟩, ⟨H0, H1, H2, H3⟩, ⟨%f, %hf, Hout⟩⟩, Hz⟩
  isplitl [HA Hz]
  · isplitl [HA] <;> iassumption
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists f
  isplitr; · ipureintro; exact outAt_unique m c f hf
  iexact Hout

set_option maxRecDepth 4000 in
theorem sound_body : bodyPre m ρ c ⊢ wpc c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9) (fun _ => bodyPost m ρ c) := by
  unfold bodyPre Φ₀ start Dat.owesAt Pipeline.owesWithin
  rw [show (dats m ρ 0 c).owed t₀.castSucc = O₀ c from rfl]
  iintro ⟨⟨⟨⟨%K, HR, HL⟩, Hc, Hv⟩, HB⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  have e0 : g0 = xstg m c := by rw [h0]; unfold Dat.before; rw [if_pos (fetch_in 0 (by decide))]; rfl
  have e1 : g1 = rwstg m c := by rw [h1]; unfold Dat.before; rw [if_pos (fetch_in 1 (by decide))]; rfl
  have e2 : g2 = ixstg m c := by rw [h2]; unfold Dat.before; rw [if_pos (fetch_in 2 (by decide))]; rfl
  have e3 : g3 = ewstg m c := by rw [h3]; unfold Dat.before; rw [if_pos (fetch_in 3 (by decide))]; rfl
  subst e0 e1 e2 e3
  iapply ((body m K c (fun p => oTile g4 (tidx c p.1 p.2.val))).trans (wp_mono _ _ _ fun _ => post_of m ρ c K))
  isplitl [HR HL Hc Hv HB HO]
  · iapply (start_of m c K)
    isplitl [HR]; · iexact HR
    isplitl [HL]; · iexact HL
    isplitl [Hc]; · iexact Hc
    isplitl [Hv]; · iexact Hv
    isplitl [HB]; · iexact HB
    iexists W; iexact HO
  isplitl [H0 H1 H2 H3]
  · unfold Ins
    isplitl [H0]; · iexact H0
    isplitl [H1]; · iexact H1
    isplitl [H2]; · iexact H2
    iexact H3
  unfold Out
  iexists g4
  isplitr; · ipureintro; exact fun _ => rfl
  iexact H4

set_option maxRecDepth 30000 in
/-- The pipeline's obligation on the body. -/
theorem body_obligation : BodyObligation (dats (F := F) m ρ 0 c) (defs₀ (F := F)) 𝒱₀ () Set.univ := fun t => by
  rw [fin_N0 t]
  rw [bigSep_W, bigSep_W]
  simp only [owns_whole_eq]
  exact sound_body m ρ c

/-! ## The cells and the tokens -/

theorem xsem_inj {x y : CI} (h : xsem x.1 x.2.1 x.2.2 = xsem y.1 y.2.1 y.2.2) : x = y := by
  rw [← decode_xsem x, h, decode_xsem y]

theorem ownSemFacts : Pipeline.OwnSemFacts cfg0.spec osem where
  isScoped k := by revert k; decide +kernel
  inj x y h := xsem_inj (SemLoc.dma.inj h)
  disj k w s h := by
    have e := xsem_ge k
    have e' : ((cfg0.spec w).sem s).val < 5 := by fin_cases w <;> fin_cases s <;> decide
    rw [SemLoc.dma.inj h] at e
    omega

theorem share_eq (w : Fin cfg0.W) : (dats m ρ 0 c).share w = fullShare := by unfold Dat.share; split <;> rfl

theorem csem_inj {k k' : Option CI} (h : csem k = csem k') : k = k' := by
  cases k with
  | none => cases k' with
    | none => rfl
    | some y => exact absurd h (by unfold csem osem; exact fun h => by cases h)
  | some x => cases k' with
    | none => exact absurd h (by unfold csem osem; exact fun h => by cases h)
    | some y => exact congrArg some (xsem_inj (SemLoc.dma.inj h))

theorem kcell_injective : Function.Injective (kcell : Dev nD × Option CI → GSem nD τ sig) := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_injective⟩

/-- The tokens: per cell one for either name of a duty. -/
def tokOf (x : Dev nD × (Option CI × Bool)) : GSem nD τ sig × ℕ × Bool := (kcell (x.1, x.2.1), 0, x.2.2)
theorem tokOf_injective : Function.Injective tokOf := by
  rintro ⟨c, k, b⟩ ⟨c', k', b'⟩ h
  have h1 := kcell_injective (congrArg Prod.fst h)
  have h2 : b = b' := congrArg (fun x : GSem nD τ sig × ℕ × Bool => x.2.2) h
  have h3 : c = c' := congrArg Prod.fst h1
  have h4 : k = k' := congrArg Prod.snd h1
  rw [h3, h4, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def toks : sProp 𝕄 := bigSep Finset.univ fun x : Option CI × Bool => dutyTok ER (kcell (c, x.1)) 0 x.2

/-- What the launch deals a device, -/
def G : sProp 𝕄 :=
  iprop((bigSep Finset.univ fun k : Option CI => roundState ER (ringRd m) (kcell (c, k)) 0)
    ∗ (bigSep Finset.univ fun k : Option CI => iprop(atPos ER (kcell (c, k)) 0 ∅ 0 ∗ reached ER (kcell (c, k)) 0)) ∗ toks c)
/-- and what it has once the cells are allocated. -/
def G' : sProp 𝕄 := iprop(∃ K, recs₀ m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq : (unscopedSems0 c : sProp 𝕄) = semVal (barCell c) 0 := by
  unfold unscopedSems0; rw [bigSep_eq_bigSepL_of_eq [SemLoc.reg barS] (by decide +kernel) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Option CI => semVal (kcell (c, k)) 0 : sProp 𝕄) := by
  rw [unscopedSems0_eq, bigSep_opt]
  unfold Pipeline.ownSems0
  iintro ⟨H1, H2⟩
  isplitl [H2] <;> iassumption

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option CI => semVal (kcell (c, k)) 0) ∗ bigSep Finset.univ fun k : Option CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's tokens, one by one as far as they are used. -/
theorem toks_own : (toks c : sProp 𝕄) ⊢ iprop((dutyTok ER (barCell c) 0 true ∗ dutyTok ER (barCell c) 0 false)
    ∗ (bigSep Finset.univ fun p : CP => dutyTok ER (sendCell p c) 0 false) ∗ bigSep Finset.univ fun p : CP => dutyTok ER (recvCell p c) 0 false) := by
  unfold toks
  rw [bigSep_univ_prod (fun x : Option CI × Bool => (dutyTok ER (kcell (c, x.1)) 0 x.2 : sProp 𝕄)), bigSep_opt, bigSep_ci, sep_bool]
  have e : ∀ r : Bool, (bigSep Finset.univ fun p : CP => bigSep Finset.univ fun b : Bool => (dutyTok ER (kcell (c, some (r, p))) 0 b : sProp 𝕄))
      ⊢ bigSep Finset.univ fun p : CP => dutyTok ER (kcell (c, some (r, p))) 0 false := fun r => big_mono fun p _ => by
    rw [sep_bool]
    iintro ⟨-, H⟩
    iexact H
  iintro ⟨Hb, H1, H2⟩
  isplitl [Hb]; · iexact Hb
  isplitl [H2]; · iapply (e false); iexact H2
  iapply (e true); iexact H1

/-- The tokens dealt around the ring: each goes to the device that pays its duty. -/
theorem toks_around : (bigSep Finset.univ fun c : Dev nD => (toks c : sProp 𝕄)) ⊢ bigSep Finset.univ fun c : Dev nD => payToks c := by
  refine BIBase.Entails.trans (big_mono fun c _ => toks_own c) ?_
  unfold payToks
  have e : (bigSep Finset.univ fun c : Dev nD => bigSep Finset.univ fun p : CP => (dutyTok ER (recvCell p c) 0 false : sProp 𝕄))
      = bigSep Finset.univ fun c : Dev nD => bigSep Finset.univ fun p : CP => dutyTok ER (recvCell p (nbr p.1 c)) 0 false := by
    rw [bigSep_univ_comm (fun (c : Dev nD) (p : CP) => (dutyTok ER (recvCell p c) 0 false : sProp 𝕄)),
      bigSep_univ_comm (fun (c : Dev nD) (p : CP) => (dutyTok ER (recvCell p (nbr p.1 c)) 0 false : sProp 𝕄))]
    exact bigSep_congr fun p _ => bigSep_univ_equiv (ring p.1) (fun c : Dev nD => (dutyTok ER (recvCell p c) 0 false : sProp 𝕄))
  rw [bigSep_sep', bigSep_sep', bigSep_sep', bigSep_sep', bigSep_sep', bigSep_sep', e,
    bigSep_univ_equiv (ring false) (fun c : Dev nD => (dutyTok ER (barCell c) 0 true : sProp 𝕄)),
    bigSep_univ_equiv (ring true) (fun c : Dev nD => (dutyTok ER (barCell c) 0 false : sProp 𝕄))]
  iintro H; iexact H

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option CI => iprop(∃ κ : ℕ, cellInv ER (ringRd m) κ (kcell ck))),
    bigSep_congr (s := Finset.univ) (fun (c : Dev nD) _ => bigSep_sep' Finset.univ (fun k : Option CI => (atPos ER (kcell (c, k)) 0 ∅ 0 : sProp 𝕄)) (fun k => reached ER (kcell (c, k)) 0)),
    bigSep_sep', ← bigSep_univ_prod (fun ck : Dev nD × Option CI => (reached ER (kcell ck) 0 : sProp 𝕄))]
  iintro ⟨HI, ⟨Hat, #HR⟩, Htok⟩
  ihave HK := (BI.bigSep_exists_pi Finset.univ (fun (ck : Dev nD × Option CI) (κ : ℕ) => (cellInv ER (ringRd m) κ (kcell ck) : sProp 𝕄))) $$ HI
  icases HK with ⟨%K, #HI⟩
  ihave Htk := (toks_around (F := F)) $$ Htok
  iapply (with_persistent (R := recs₀ m K) (Φ := linear) fun c _ => show iprop(recs₀ m K ∗ linear c) ⊢ G' m c from by
    unfold G'
    iintro ⟨H1, H2⟩
    iexists K
    isplitl [H1] <;> iassumption)
  isplitr
  · unfold recs₀; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem cell_inj {k k' : Option CI} {a b : Dev nD} (h : kcell (a, k) = kcell (b, k')) : a = b ∧ k = k' := Prod.mk.inj (kcell_injective h)

theorem bar_ne (p : CP) (a b : Dev nD) : barCell a ≠ recvCell p b := fun h => by
  have := (cell_inj (k := none) (k' := some (true, p)) h).2
  cases this

/-- What device `d` owes device `c`'s barrier cell, and its receive cell of transfer `p`. -/
theorem owed_bar (d : Dev nD) : O₀ d (barCell c) () = (if d = nbr false c then 1 else 0) + (if d = nbr true c then 1 else 0) := by
  have h0 : owed d (fun _ => 0) (barCell c) () = 0 := by
    by_contra hne
    obtain ⟨p, -, hp⟩ := owed_pos (c := d) (t := fun _ => 0) (g := barCell c) (u := ()) (by omega)
    exact bar_ne p _ _ hp
  have hb : ∀ b : Bool, (tallyAt (barCell (nbr b d)) () 1 : CellTallies nD τ sig Unit) (barCell c) () = if d = nbr (!b) c then 1 else 0 := fun b => by
    rw [tallyAt_apply]
    by_cases h : d = nbr (!b) c
    · subst h; rw [if_pos ⟨by rw [nbr_nbr'], rfl⟩, if_pos rfl]
    · rw [if_neg h, if_neg]
      rintro ⟨h1, -⟩
      have e : c = nbr b d := (cell_inj (k := none) (k' := none) h1).1
      exact h (by rw [e, nbr_nbr])
  unfold O₀ O₁
  rw [Pi.add_apply, Finsupp.add_apply, Pi.add_apply, Finsupp.add_apply, h0, hb true, hb false, Nat.zero_add]
  rfl

theorem owed_recv (d : Dev nD) (p : CP) : O₀ d (recvCell p c) () = if d = nbr (!p.1) c then N else 0 := by
  have hb : ∀ b : Bool, (tallyAt (barCell (nbr b d)) () 1 : CellTallies nD τ sig Unit) (recvCell p c) () = 0 := fun b => by
    rw [tallyAt_apply, if_neg]
    rintro ⟨h1, -⟩
    exact bar_ne p _ _ h1.symm
  unfold O₀ O₁
  rw [Pi.add_apply, Finsupp.add_apply, Pi.add_apply, Finsupp.add_apply, hb, hb, Nat.add_zero]
  unfold owed
  rw [Finset.sum_apply, Finsupp.finset_sum_apply, Finset.sum_eq_single p]
  · rw [if_pos (by dsimp only; omega), tallyAt_apply]
    by_cases h : d = nbr (!p.1) c
    · subst h; rw [if_pos ⟨by rw [nbr_nbr'], rfl⟩, if_pos rfl]
    · rw [if_neg h, if_neg]
      rintro ⟨h1, -⟩
      have e : c = nbr p.1 d := (cell_inj (k := some (true, p)) (k' := some (true, p)) h1).1
      exact h (by rw [e, nbr_nbr])
  · intro q _ hq
    split
    · rw [tallyAt_apply, if_neg]
      rintro ⟨h1, -⟩
      have := (cell_inj (k := some (true, p)) (k' := some (true, q)) h1).2
      exact hq (Prod.mk.inj (Option.some.inj this)).2.symm
    · rfl
  · exact fun h => absurd (Finset.mem_univ _) h

theorem launch_bar :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (nbr false c) fun _ => 1, Finset.sum_ite_eq' Finset.univ (nbr true c) fun _ => 1, if_pos (Finset.mem_univ _), if_pos (Finset.mem_univ _)]

theorem launch_recv (p : CP) :
    tallyOn (recvCell p c) (launchCredit (Pipeline.owing O₀) 0 (recvCell p c)) = (tallyAt (recvCell p c) () N : CellTallies nD τ sig Unit) := by
  unfold tallyAt; refine congrArg _ (Finsupp.ext fun u => ?_); cases u
  rw [Pipeline.launchCredit_owing, Finsupp.single_eq_same, Finset.sum_congr rfl fun d _ => owed_recv c d p, Finset.sum_ite_eq' Finset.univ (nbr (!p.1) c) fun _ => N,
    if_pos (Finset.mem_univ _)]

/-- The barrier's semaphore and the receive semaphores. -/
def rsem : Option CP ↪ SemLoc sig where
  toFun k := csem (k.map fun p => (true, p))
  inj' k k' h := by
    have := csem_inj h
    cases k <;> cases k' <;> simp_all

theorem creds_intro : (Pipeline.launchCred O₀ c : sProp 𝕄) ⊢ creds c := by
  unfold Pipeline.launchCred creds
  refine BIBase.Entails.trans (BI.bigSep_subset (Finset.subset_univ (Finset.univ.map rsem))) ?_
  rw [bigSep_map, bigSep_opt]
  refine BIBase.Entails.trans ?_ (Entails.of_eq (sep_eq (congrArg (cred (nD := nD)) (launch_bar c)) (bigSep_congr fun p _ => congrArg (cred (nD := nD)) (launch_recv c p))))
  iintro H; iexact H

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [bufs_true, bufs_false]
  iintro ⟨Hs, -, H0, H1, H2, H3, H4, H5⟩
  isplitl [Hs]; · iexact Hs
  isplitl [H0 H2 H4]
  · isplitl [H0]; · iexact H0
    isplitl [H2] <;> iassumption
  isplitl [H1]; · iexact H1
  isplitl [H3] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ Pipeline.ownSems0
  rw [bigSep_ci]
  iintro ⟨HA, Hz⟩
  ihave HE := ((ResA_end m c (fun d => m _) (fun d => m _) (fun d => m _)).trans
    (Entails.of_eq (sep_eq rfl (sep_eq (bufs_true c) (bufs_false c))))) $$ HA
  icases HE with ⟨⟨Hs, Hr⟩, ⟨H0, H2, H4⟩, H1, H3, H5⟩
  isplitl [Hz]; · iexact Hz
  isplitl [Hs Hr]
  · isplitl [Hr] <;> iassumption
  isplitl [H0]; · iexact H0
  isplitl [H1]; · iexact H1
  isplitl [H2]; · iexact H2
  isplitl [H3]; · iexact H3
  isplitl [H4] <;> iassumption

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of eight devices, for any float values, from any memory with zero counters: every execution terminates,
    with each device's result at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_in (w : Fin 5) (h : w ≠ 4) : finalA m ρ c w = (s₀ m ρ).mem ((cfg0.win w).arr.view.loc (c : Thread nD τ)) :=
  (dats (F := F) m ρ 0 c).arrAt_in w (by fin_cases w <;> first | rfl | exact absurd rfl h) _

/-- The frame: the arguments unchanged, every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c 0).trans (finalA_in m ρ c 0 (by decide)), (h.1 c 1).trans (finalA_in m ρ c 1 (by decide)),
      (h.1 c 2).trans (finalA_in m ρ c 2 (by decide)), (h.1 c 3).trans (finalA_in m ρ c 3 (by decide))⟩, h.2⟩) (run_main m ρ)

end Cert.Proof

end
-- ==== Proof.Frames.lean ====
/-
  The frames: the run of the kernel read at its arguments, for both float values; the reference's from its own run.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The two programs have the same text: their body tables agree, label by label. -/
theorem defs₀_same : Cert.Kernel.defs₀ (F := Bits) = Cert.KernelIdeal.defs₀ := by
  funext p
  cases p with
  | tc =>
    funext l a
    obtain ⟨_ | n, h⟩ := l
    · rfl
    · exact absurd h (Nat.not_lt.2 (Nat.le_add_left _ _))
  | scScalar => rfl
  | scVector => rfl

theorem defs_same : Cert.Kernel.defs (F := Bits) = Cert.KernelIdeal.defs :=
  congrArg (Pipeline.defs (Cert.KernelIdeal.pcfgs (F := Bits))) defs₀_same

/-- The kernel's frame, over words. -/
theorem frame_kernel : Cert.quiescent_Kernel := fun m ρ _ => by
  rw [defs_same]
  exact run_frame (F := Bits) m ρ

/-- The kernel's frame, over the extended reals. -/
theorem frame_ideal : Cert.quiescent_KernelIdeal := fun m ρ _ => run_frame (F := Ideal) m ρ

/-- The reference's frame. It has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reals.lean ====
/-
  The mathematics of one output element over the extended reals, free of the programs: the softmax weights of finite
  scores are positive reals, the two chosen weights divided by their sum do not depend on the softmax's denominator, and
  a sum over all experts whose gate is zero except at the chosen two is the two chosen experts' terms.
-/
module

public import Idealize.ShloMosaic.Lib.Pointwise
public import Idealize.ShloMosaic.Lib.StableHlo.Predicate

@[expose] public section

noncomputable section

namespace Cert.Proof

open Idealize.ShloMosaic

/-- The value from which a row's maximum is folded: minus infinity. -/
abbrev low : EReal := Ideal.ofBits FTy.f32 4286578688#32

theorem low_ne_top : low ≠ ⊤ := by
  have h : low = ⊥ := by simp [low, Ideal.ofBits, Ideal.ieee]
  rw [h]; exact bot_ne_top

/-- The exponentials of a row of finite scores, shifted by the row's maximum, are positive reals. -/
theorem weights_pos (s : Fin 32 → EReal) (ht : ∀ k, s k ≠ ⊤) (hb : ∀ k, s k ≠ ⊥) :
    ∃ q : Fin 32 → ℝ, (∀ k, 0 < q k) ∧
      ∀ k, Ideal.exp (s k - Finset.fold max low (fun k' => s k') Finset.univ) = (q k : EReal) := by
  have h1 : Finset.fold max low (fun k' => s k') Finset.univ ≠ ⊤ := by
    refine ne_of_lt ((Finset.fold_max_lt _).2 ⟨lt_top_iff_ne_top.2 low_ne_top, fun k _ => lt_top_iff_ne_top.2 (ht k)⟩)
  have h2 : Finset.fold max low (fun k' => s k') Finset.univ ≠ ⊥ := by
    have : s 0 ≤ Finset.fold max low (fun k' => s k') Finset.univ :=
      (Finset.le_fold_max _).2 (Or.inr ⟨0, Finset.mem_univ _, le_refl _⟩)
    exact fun e => hb 0 (le_bot_iff.1 (e ▸ this))
  refine ⟨fun k => Real.exp ((s k).toReal - (Finset.fold max low (fun k' => s k') Finset.univ).toReal),
    fun k => Real.exp_pos _, fun k => ?_⟩
  generalize Finset.fold max low (fun k' => s k') Finset.univ = M at h1 h2 ⊢
  rw [← Ideal.exp_coe, EReal.coe_sub, EReal.coe_toReal (ht k) (hb k), EReal.coe_toReal h1 h2]

theorem coe_sum {n : ℕ} (q : Fin n → ℝ) : ((∑ k, q k : ℝ) : EReal) = ∑ k, (q k : EReal) := by
  classical
  have key : ∀ S : Finset (Fin n), ((∑ k ∈ S, q k : ℝ) : EReal) = ∑ k ∈ S, (q k : EReal) := by
    intro S
    induction S using Finset.induction_on with
    | empty => simp
    | insert a S ha ih => rw [Finset.sum_insert ha, Finset.sum_insert ha, EReal.coe_add, ih]
  exact key Finset.univ

theorem div_real (a : ℝ) {b : ℝ} (hb : b ≠ 0) : Ideal.div (a : EReal) (b : EReal) = ((a / b : ℝ) : EReal) := by
  rw [Ideal.div_coe hb, ← EReal.coe_mul, mul_one_div]

/-- A weight's share of two weights' sum. -/
theorem share (a b : ℝ) (ha : 0 < a) (hb : 0 < b) :
    Ideal.div (a : EReal) ((a : EReal) + (b : EReal)) = ((a / (a + b) : ℝ) : EReal) := by
  rw [← EReal.coe_add, div_real a (by positivity)]

/-- The share is the same after both weights are divided by one positive number. -/
theorem share_scaled (a b z : ℝ) (ha : 0 < a) (hb : 0 < b) (hz : 0 < z) :
    Ideal.div (Ideal.div (a : EReal) (z : EReal)) (Ideal.div (a : EReal) (z : EReal) + Ideal.div (b : EReal) (z : EReal))
      = ((a / (a + b) : ℝ) : EReal) := by
  rw [div_real a hz.ne', div_real b hz.ne', share _ _ (by positivity) (by positivity)]
  congr 1
  field_simp

/-- A gate that is a nonnegative real comes out of a sum of products. -/
theorem gate_out {n : ℕ} (g : ℝ) (hg : 0 ≤ g) (x w : Fin n → EReal) :
    ∑ d, x d * (g : EReal) * w d = (g : EReal) * ∑ d, x d * w d := by
  classical
  have key : ∀ S : Finset (Fin n), ∑ d ∈ S, x d * (g : EReal) * w d = (g : EReal) * ∑ d ∈ S, x d * w d := by
    intro S
    induction S using Finset.induction_on with
    | empty => simp
    | insert a S ha ih =>
      rw [Finset.sum_insert ha, Finset.sum_insert ha, ih,
        EReal.left_distrib_of_nonneg_of_ne_top (by exact_mod_cast hg) (EReal.coe_ne_top g)]
      congr 1
      rw [mul_comm (x a) (g : EReal), mul_assoc]
  exact key Finset.univ

/-- Two numbers below 32 are the same word only if they are the same number. -/
theorem word_eq {a b : Fin 32} : IntOp.cmpi .eq (BitVec.ofNat 32 a.val) (BitVec.ofNat 32 b.val) = 1#1 ↔ a = b := by
  rw [StableHlo.Predicate.cmpi_eq_iff]
  constructor
  · intro h
    have h' := congrArg BitVec.toNat h
    simp only [BitVec.toNat_ofNat] at h'
    have ha := a.isLt; have hb := b.isLt
    exact Fin.ext (by omega)
  · rintro rfl; rfl

theorem select_word {a b : Fin 32} (u v : EReal) :
    Scalar.select (IntOp.cmpi .eq (BitVec.ofNat 32 a.val) (BitVec.ofNat 32 b.val)) u v = if a = b then u else v := by
  unfold Scalar.select
  by_cases h : a = b
  · rw [if_pos h]; exact if_pos (word_eq.2 h)
  · rw [if_neg h]; exact if_neg (fun e => h (word_eq.1 e))

/-- The masked sum of a row's weights is the weight the index names. -/
theorem pick_sum (E : Fin 32) (p : Fin 32 → EReal) :
    ∑ k, Scalar.select (IntOp.cmpi .eq (BitVec.ofNat 32 k.val) (BitVec.ofNat 32 E.val)) (p k) 0 = p E := by
  simp only [select_word]
  rw [Finset.sum_ite_eq' Finset.univ E p, if_pos (Finset.mem_univ _)]

/-- Expert `e`'s product with the tokens scaled by its gate. -/
def gated (E0 E1 : Fin 32) (g0 g1 : ℝ) (x : Fin 512 → EReal) (W : Fin 32 → Fin 512 → EReal) (e : Fin 32) : EReal :=
  ∑ d, x d * (Scalar.select (IntOp.cmpi .eq (BitVec.ofNat 32 E0.val) (BitVec.ofNat 32 e.val)) (g0 : EReal) 0
    + Scalar.select (IntOp.cmpi .eq (BitVec.ofNat 32 E1.val) (BitVec.ofNat 32 e.val)) (g1 : EReal) 0) * W e d

/-- Over all experts, what is left is the chosen two. -/
theorem gated_sum (E0 E1 : Fin 32) (g0 g1 : ℝ) (h0 : 0 ≤ g0) (h1 : 0 ≤ g1) (x : Fin 512 → EReal)
    (W : Fin 32 → Fin 512 → EReal) :
    ∑ e, gated E0 E1 g0 g1 x W e = (g0 : EReal) * ∑ d, x d * W E0 d + (g1 : EReal) * ∑ d, x d * W E1 d := by
  have hterm : ∀ e, gated E0 E1 g0 g1 x W e
      = (if E0 = e then (g0 : EReal) * ∑ d, x d * W e d else 0) + (if E1 = e then (g1 : EReal) * ∑ d, x d * W e d else 0) := by
    intro e
    have c0 : (if E0 = e then (g0 : EReal) else 0) = ((if E0 = e then g0 else 0 : ℝ) : EReal) := by split <;> simp
    have c1 : (if E1 = e then (g1 : EReal) else 0) = ((if E1 = e then g1 else 0 : ℝ) : EReal) := by split <;> simp
    have n0 : 0 ≤ (if E0 = e then g0 else 0 : ℝ) := by split <;> simp [h0]
    have n1 : 0 ≤ (if E1 = e then g1 else 0 : ℝ) := by split <;> simp [h1]
    unfold gated
    simp only [select_word]
    rw [c0, c1, ← EReal.coe_add, gate_out _ (by positivity), EReal.coe_add,
      EReal.right_distrib_of_nonneg (by exact_mod_cast n0) (by exact_mod_cast n1), ← c0, ← c1]
    congr 1
    · split <;> simp
    · split <;> simp
  rw [Finset.sum_congr rfl fun e _ => hterm e, Finset.sum_add_distrib]
  congr 1
  · rw [Finset.sum_ite_eq Finset.univ E0, if_pos (Finset.mem_univ _)]
  · rw [Finset.sum_ite_eq Finset.univ E1, if_pos (Finset.mem_univ _)]

/-- The experts are eight devices' four. -/
theorem sum_experts (f : Fin 32 → EReal) :
    ∑ e : Fin 32, f e = ∑ c : Fin 8, (f ⟨4 * c.val, by omega⟩ + f ⟨4 * c.val + 1, by omega⟩ + f ⟨4 * c.val + 2, by omega⟩
      + f ⟨4 * c.val + 3, by omega⟩) := by
  have h := Fin.sum_univ_eq_sum_range (fun k => if h : k < 32 then f ⟨k, h⟩ else 0) 32
  rw [show (∑ e : Fin 32, f e) = ∑ e : Fin 32, (if h : e.val < 32 then f ⟨e.val, h⟩ else 0) from
    Finset.sum_congr rfl fun e _ => by rw [dif_pos e.isLt]]
  simp only [Fin.sum_univ_succ, Fin.sum_univ_zero, Fin.val_succ, Fin.val_zero]
  simp
  abel

end Cert.Proof

end
-- ==== Proof.KernelValue.lean ====
/-
  The kernel's result at one element. A tile of a device's partial output is, element by element, the gated products of
  the device's four experts; the ring adds the eight devices' parts of every tile, each once; so the result's element is
  the sum over all devices of their parts there.
-/
module

public import proofs.«01_k».proof.Proof.Launch
public import proofs.«01_k».proof.Proof.Reals

@[expose] public section

set_option maxRecDepth 16384

noncomputable section

namespace Cert.Proof

open Cert.KernelIdeal Cert.KernelIdeal.Gen
open Idealize.ShloMosaic Idealize.ShloMosaic.TcCoe

/-! ## One tile of one device at an index -/

section Half

variable (x : FVec Ideal S128x512 .f32) (e0 e1 : IVec S128x1 32) (rw : FVec Ideal S512x32 .f32)

/-- A token's score of one expert. -/
def tscore (a : Fin 128) (k : Fin 32) : EReal := ∑ d : Fin 512, x (ix2 a d) * rw (ix2 d k)

theorem hScores_at (a : Fin 128) (k : Fin 32) : hScores (F := Ideal) x rw (ix2 a k)
    = Ideal.exp (tscore x rw a k - Finset.fold max low (fun k' => tscore x rw a k') Finset.univ) := by
  pointwise [hScores]
  rfl

theorem hPick_at (e : IVec S128x1 32) (p : FVec Ideal S128x32 .f32) (a : Fin 128) (E : Fin 32)
    (h : e (ix2 a 0) = BitVec.ofNat 32 E.val) : hPick (F := Ideal) e p (ix2 a 0) = p (ix2 a E) := by
  pointwise [hPick]
  rw [h]
  exact pick_sum E fun k => p (ix2 a k)

theorem hGate_at (ge : BitVec 32) (g0 g1 : FVec Ideal S128x1 .f32) (a : Fin 128) :
    hGate (F := Ideal) ge e0 e1 g0 g1 (ix2 a 0)
      = Scalar.select (IntOp.cmpi .eq (e0 (ix2 a 0)) ge) (g0 (ix2 a 0)) 0
        + Scalar.select (IntOp.cmpi .eq (e1 (ix2 a 0)) ge) (g1 (ix2 a 0)) 0 := by
  pointwise [hGate]

theorem hTerm_at (g : FVec Ideal S128x1 .f32) (w : FVec Ideal S1x512x1024 .f32) (a : Fin 128) (j : Fin 1024) :
    hTerm (F := Ideal) x g w (ix2 a j) = ∑ d : Fin 512, x (ix2 a d) * g (ix2 a 0) * w (ix3 0 d j) := by
  pointwise [hTerm]

variable {e0 e1} {E0 E1 : Fin 32} {a : Fin 128} (h0 : e0 (ix2 a 0) = BitVec.ofNat 32 E0.val) (h1 : e1 (ix2 a 0) = BitVec.ofNat 32 E1.val)
  (g0 g1 : FVec Ideal S128x1 .f32) {s0 s1 : ℝ} (hg0 : g0 (ix2 a 0) = (s0 : EReal)) (hg1 : g1 (ix2 a 0) = (s1 : EReal))

include h0 h1 hg0 hg1 in
/-- One expert's term. -/
theorem term_at (ge : BitVec 32) (e : Fin 32) (hge : ge = BitVec.ofNat 32 e.val) (w : FVec Ideal S1x512x1024 .f32)
    (W : Fin 32 → Fin 512 → EReal) (j : Fin 1024) (hw : ∀ d, w (ix3 0 d j) = W e d) :
    hTerm (F := Ideal) x (hGate (F := Ideal) ge e0 e1 g0 g1) w (ix2 a j) = gated E0 E1 s0 s1 (fun d => x (ix2 a d)) W e := by
  rw [hTerm_at]
  unfold gated
  refine Finset.sum_congr rfl fun d _ => ?_
  rw [hGate_at, h0, h1, hg0, hg1, hge, hw]

end Half

/-- The words of device `c`'s four experts. -/
theorem expert_word (c : Dev nD) (k : Fin 4) : Scalar.addi (baseW c) (BitVec.ofNat 32 k.val) = BitVec.ofNat 32 (4 * c.val + k.val) := by
  revert c k; decide

/-- The four experts of device `c`. -/
def exp4 (c : Dev nD) (k : Fin 4) : Fin 32 := ⟨4 * c.val + k.val, by have : c.val < 8 := c.isLt; omega⟩

/-- A TILE'S ELEMENT: the gated products of the device's four experts. -/
theorem half_at (c : Dev nD) (x : FVec Ideal S128x512 .f32) (e0 e1 : IVec S128x1 32) (rw : FVec Ideal S512x32 .f32)
    (w0 w1 w2 w3 : FVec Ideal S1x512x1024 .f32) (a : Fin 128) (j : Fin 1024) (E0 E1 : Fin 32)
    (h0 : e0 (ix2 a 0) = BitVec.ofNat 32 E0.val) (h1 : e1 (ix2 a 0) = BitVec.ofNat 32 E1.val) (q : Fin 32 → ℝ)
    (hq : ∀ k, 0 < q k)
    (hp : ∀ k, Ideal.exp (tscore x rw a k - Finset.fold max low (fun k' => tscore x rw a k') Finset.univ) = (q k : EReal))
    (W : Fin 32 → Fin 512 → EReal) (hw0 : ∀ d, w0 (ix3 0 d j) = W (exp4 c 0) d) (hw1 : ∀ d, w1 (ix3 0 d j) = W (exp4 c 1) d)
    (hw2 : ∀ d, w2 (ix3 0 d j) = W (exp4 c 2) d) (hw3 : ∀ d, w3 (ix3 0 d j) = W (exp4 c 3) d) :
    half (F := Ideal) (baseW c) x e0 e1 rw w0 w1 w2 w3 (ix2 a j)
      = gated E0 E1 (q E0 / (q E0 + q E1)) (q E1 / (q E0 + q E1)) (fun d => x (ix2 a d)) W (exp4 c 0)
        + gated E0 E1 (q E0 / (q E0 + q E1)) (q E1 / (q E0 + q E1)) (fun d => x (ix2 a d)) W (exp4 c 1)
        + gated E0 E1 (q E0 / (q E0 + q E1)) (q E1 / (q E0 + q E1)) (fun d => x (ix2 a d)) W (exp4 c 2)
        + gated E0 E1 (q E0 / (q E0 + q E1)) (q E1 / (q E0 + q E1)) (fun d => x (ix2 a d)) W (exp4 c 3) := by
  have p0 : hPick (F := Ideal) e0 (hScores (F := Ideal) x rw) (ix2 a 0) = (q E0 : EReal) := by rw [hPick_at e0 _ a E0 h0, hScores_at, hp]
  have p1 : hPick (F := Ideal) e1 (hScores (F := Ideal) x rw) (ix2 a 0) = (q E1 : EReal) := by rw [hPick_at e1 _ a E1 h1, hScores_at, hp]
  have hg0 : divf (hPick (F := Ideal) e0 (hScores (F := Ideal) x rw))
      (addf (hPick (F := Ideal) e0 (hScores (F := Ideal) x rw)) (hPick (F := Ideal) e1 (hScores (F := Ideal) x rw))) (ix2 a 0)
      = ((q E0 / (q E0 + q E1) : ℝ) : EReal) := by
    pointwise
    rw [p0, p1, share _ _ (hq E0) (hq E1)]
  have hg1 : divf (hPick (F := Ideal) e1 (hScores (F := Ideal) x rw))
      (addf (hPick (F := Ideal) e0 (hScores (F := Ideal) x rw)) (hPick (F := Ideal) e1 (hScores (F := Ideal) x rw))) (ix2 a 0)
      = ((q E1 / (q E0 + q E1) : ℝ) : EReal) := by
    pointwise
    rw [p0, p1, add_comm, share _ _ (hq E1) (hq E0), add_comm (q E1)]
  rw [← term_at x h0 h1 _ _ hg0 hg1 _ _ (expert_word c 0) w0 W j hw0, ← term_at x h0 h1 _ _ hg0 hg1 _ _ (expert_word c 1) w1 W j hw1,
    ← term_at x h0 h1 _ _ hg0 hg1 _ _ (expert_word c 2) w2 W j hw2, ← term_at x h0 h1 _ _ hg0 hg1 _ _ (expert_word c 3) w3 W j hw3]
  unfold half
  pointwise

/-! ## The ring's sum -/

section Ring

variable (m : (ℓ : Loc nD τ sig) → Buf (Elt Ideal) ℓ)

/-- Device `e`'s part of tile `h`. -/
def part (e : Dev nD) (h : Fin 16) : FVec Ideal S128x1024 .f32 :=
  half (baseW e) (xT m e h) (i0T m e h) (i1T m e h) (rwT m e) (ewT0 m e) (ewT1 m e) (ewT2 m e) (ewT3 m e)

theorem CH_part (c : Dev nD) (d : Bool) (s : ℕ) : CH m c d s = part m c (tidx c d s) := rfl

theorem VF_at (d : Bool) (j : ℕ) (c : Dev nD) (i : S128x1024.Idx) :
    VF m d j c i = part m c (tidx c d (j + 1)) i + (VV m d j (nbr (!d) c) i : EReal) := by
  unfold VF
  rw [CH_part]
  pointwise

/-- In the reduce-scatter, transfer `j` carries the sum of the parts of the sender and of the `j` devices before it. -/
theorem VV_sum (d : Bool) (i : S128x1024.Idx) (j : ℕ) (hj : j ≤ 7) (c : Dev nD) :
    (VV m d j c i : EReal) = ∑ k ∈ Finset.range (j + 1), part m ((nbr (!d))^[k] c) (tidx c d j) i := by
  induction j generalizing c with
  | zero =>
    rw [Finset.sum_range_one]
    rfl
  | succ j ih =>
    rw [VV_succ_lt m d j (by omega)]
    have hn : (nar (VF m d j c) i : EReal) = VF m d j c i := rfl
    have ht := tidx_nbr d c ⟨j, by omega⟩
    rw [hn, VF_at, ih (by omega), Finset.sum_range_succ' _ (j + 1), add_comm]
    simp only at ht
    rw [ht]
    rfl

/-- In the all-gather, a finished tile moves on. -/
theorem VV_moves (d : Bool) (n : ℕ) (c : Dev nD) : VV m d (n + 7) c = VV m d 7 ((nbr (!d))^[n] c) := by
  induction n generalizing c with
  | zero => rw [Nat.zero_add]; rfl
  | succ n ih => rw [show n + 1 + 7 = (n + 7) + 1 from by omega, VV_succ_ge m d (n + 7) (by omega), ih]; rfl

theorem around_inj (d : Bool) (c : Dev nD) (k k' : Fin 8) (h : (nbr (!d))^[k.val] c = (nbr (!d))^[k'.val] c) : k = k' := by
  revert d c k k'; decide +kernel

/-- Eight steps around the ring meet every device once. -/
theorem around_sum (d : Bool) (c : Dev nD) (f : Dev nD → EReal) :
    ∑ k ∈ Finset.range 8, f ((nbr (!d))^[k] c) = ∑ e, f e := by
  rw [Finset.sum_range]
  have hb : Function.Bijective fun k : Fin 8 => (nbr (!d))^[k.val] c :=
    (Finite.injective_iff_bijective (α := Fin 8)).1 fun k k' h => around_inj d c k k' h
  exact hb.sum_comp f

theorem VV_all (d : Bool) (c : Dev nD) (i : S128x1024.Idx) : (VV m d 7 c i : EReal) = ∑ e, part m e (tidx c d 7) i := by
  rw [VV_sum m d i 7 (le_refl _) c]
  exact around_sum d c fun e => part m e (tidx c d 7) i

theorem tidx_moves (d : Bool) (c : Dev nD) (s : Fin 7) : tidx ((nbr (!d))^[s.val] (nbr (!d) c)) d 7 = tidx c d s.val := by
  revert d c s; decide +kernel

/-- Each tile of the result is the sum of all devices' parts of it. -/
theorem FO_sum (c : Dev nD) (d : Bool) (s : Fin 8) (i : S128x1024.Idx) : FO m c (d, s) i = ∑ e, part m e (tidx c d s.val) i := by
  by_cases h : s.val = 7
  · obtain rfl : s = 7 := Fin.ext h
    have h7 : FO m c (d, 7) = VF m d 6 c := rfl
    rw [h7]
    refine Eq.trans ?_ (VV_all m d c i)
    rw [VV_succ_lt m d 6 (by norm_num)]
    rfl
  · have hs : s.val < 7 := by have := s.isLt; omega
    have hF : FO m c (d, s) = wid (VV m d (s.val + 7) (nbr (!d) c)) := by
      unfold FO
      split
      · rename_i hh; simp only [Prod.mk.injEq] at hh; obtain ⟨-, rfl⟩ := hh; exact absurd rfl h
      · rename_i hh; simp only [Prod.mk.injEq] at hh; obtain ⟨rfl, rfl⟩ := hh; rfl
    have hw : (wid (VV m d (s.val + 7) (nbr (!d) c)) i : EReal) = VV m d (s.val + 7) (nbr (!d) c) i := rfl
    rw [hF, hw, VV_moves, VV_all, tidx_moves d c ⟨s.val, hs⟩]

/-- THE RESULT'S ELEMENT lies in some tile, and there it is the sum of all devices' parts. -/
theorem outAt_sum (c : Dev nD) (i : S2048x1024.Idx) :
    ∃ (h : Fin 16) (t : S128x1024.Idx), (oR h).emb t = i ∧ (outAt m c i : EReal) = ∑ e, part m e h t :=
  ⟨_, _, place_emb c i, FO_sum m c _ _ _⟩

end Ring

end Cert.Proof

end
-- ==== Proof.RefValue.lean ====
/-
  The reference's result at one element: its two gathers read at an index, and the composed term read down to a sum of
  two gated products.
-/
module

public import proofs.«01_k».proof.Proof.Reals
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe

/-- A word that holds a number below `n`, read signed and clamped to `n - 1`, is that number. -/
theorem clamp_word (e n : ℕ) (he : e < n) (hn : n < 2 ^ 31) : min (BitVec.ofNat 32 e).toInt.toNat (n - 1) = e := by
  rw [StableHlo.Predicate.toInt_ofNat_small e (by omega)]
  simp; omega

/-- The gather of one weight per token, at a token whose two start indices are in range. -/
theorem pick_gather (p : FVec Ideal S2048x32 .f32) (idx : IVec S2048x2 32) (r : Fin 2048) (a : Fin 2048) (e : Fin 32)
    (ha : idx (ix2 r 0) = BitVec.ofNat 32 a.val) (he : idx (ix2 r 1) = BitVec.ofNat 32 e.val) :
    Host.gather gather_S2048x32_S2048x2_S2048_n_01_n_n_01_1_11 p idx (ix1 r) = p (ix2 a e) := by
  set D := gather_S2048x32_S2048x2_S2048_n_01_n_n_01_1_11 with hD
  unfold Host.gather
  congr 1
  have hsi : ∀ k : Fin D.startIndexMap.length, D.siIdx (ix1 r) k = ix2 r ⟨k.val, k.isLt⟩ := by
    intro k; funext b; refine Fin.ext ?_
    match b with
    | ⟨0, _⟩ => rfl
    | ⟨1, _⟩ => rfl
  funext b
  refine Fin.ext ?_
  show D.start (ix1 r) idx b + D.batchCoord (ix1 r) b + D.offCoord (ix1 r) b = _
  have hmem : b ∈ D.startIndexMap := by
    match b with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem, hsi]
  match b with
  | ⟨0, _⟩ =>
    show min (idx (ix2 r 0)).toInt.toNat (2048 - 1) = a.val
    rw [ha, clamp_word _ _ a.isLt (by norm_num)]
  | ⟨1, _⟩ =>
    show min (idx (ix2 r 1)).toInt.toNat (32 - 1) = e.val
    rw [he, clamp_word _ _ e.isLt (by norm_num)]

/-- The gather of one expert per token, at a token whose start index is in range. -/
theorem expert_gather (W : FVec Ideal S32x512x1024 .f32) (idx : IVec S2048x1 32) (r : Fin 2048) (d : Fin 512) (j : Fin 1024)
    (e : Fin 32) (he : idx (ix2 r 0) = BitVec.ofNat 32 e.val) :
    Host.gather gather_S32x512x1024_S2048x1_S2048x512x1024_12_0_n_n_0_1_15121024 W idx (ix3 r d j) = W (ix3 e d j) := by
  set D := gather_S32x512x1024_S2048x1_S2048x512x1024_12_0_n_n_0_1_15121024 with hD
  unfold Host.gather
  congr 1
  have hsi : ∀ k : Fin D.startIndexMap.length, D.siIdx (ix3 r d j) k = ix2 r ⟨k.val, k.isLt⟩ := by
    intro k; funext b; refine Fin.ext ?_
    match b with
    | ⟨0, _⟩ => rfl
    | ⟨1, _⟩ => rfl
  funext b
  refine Fin.ext ?_
  show D.start (ix3 r d j) idx b + D.batchCoord (ix3 r d j) b + D.offCoord (ix3 r d j) b = _
  rw [GatherDims.batchCoord_eq_zero _ _ _ List.not_mem_nil]
  match b with
  | ⟨0, hb⟩ =>
    have hmem : (⟨0, hb⟩ : Fin S32x512x1024.rank) ∈ D.startIndexMap := List.mem_cons_self
    rw [GatherDims.offCoord_eq_zero _ _ _ (fun h => ((GatherDims.mem_sKept _ _).mp h).1 List.mem_cons_self)]
    simp only [Nat.add_zero]
    unfold GatherDims.start
    rw [dif_pos hmem, hsi]
    show min (idx (ix2 r 0)).toInt.toNat (32 - 1) = e.val
    rw [he, clamp_word _ _ e.isLt (by norm_num)]
  | ⟨1, hb⟩ =>
    have hn : (⟨1, hb⟩ : Fin S32x512x1024.rank) ∉ D.startIndexMap :=
      fun h => Nat.one_ne_zero (congrArg Fin.val (List.mem_singleton.1 h))
    unfold GatherDims.start
    rw [dif_neg hn]
    simp only [Nat.zero_add]
    rfl
  | ⟨2, hb⟩ =>
    have hn : (⟨2, hb⟩ : Fin S32x512x1024.rank) ∉ D.startIndexMap :=
      fun h => Nat.succ_ne_zero 1 (congrArg Fin.val (List.mem_singleton.1 h))
    unfold GatherDims.start
    rw [dif_neg hn]
    simp only [Nat.zero_add]
    rfl

/-! ## The composed term in named parts -/

/-- The exponentials of the scores, shifted by each row's maximum. -/
def weights (x : FVec Ideal S2048x512 .f32) (rw : FVec Ideal S512x32 .f32) : FVec Ideal S2048x32 .f32 :=
  Host.exp (subf (Host.dotGeneral dot_S2048x512_S512x32_S2048x32_1_0_0_1_n_n none x rw)
    (broadcastInDim S2048x32 ![0, 1] bcast_S2048x1_S2048x32_0_1 (broadcastInDim S2048x1 ![0] bcast_S2048_S2048x1_0
      (Host.reduce FloatOps.maximumf (Host.dotGeneral dot_S2048x512_S512x32_S2048x32_1_0_0_1_n_n none x rw)
        (constant S_ .f32 0xFF800000#32) reducesTo_S2048x32_S2048_d1 h_S_))))

/-- The softmax: the weights over their row's sum. -/
def soft (x : FVec Ideal S2048x512 .f32) (rw : FVec Ideal S512x32 .f32) : FVec Ideal S2048x32 .f32 :=
  Host.divf (weights x rw) (broadcastInDim S2048x32 ![0, 1] bcast_S2048x1_S2048x32_0_1
    (broadcastInDim S2048x1 ![0] bcast_S2048_S2048x1_0
      (Host.reduceAdd (weights x rw) (constant S_ .f32 0x00000000#32) reducesTo_S2048x32_S2048_d1 h_S_)))

/-- The two columns of the routing indices. -/
def col0 (ix : IVec S2048x2 32) : IVec S2048 32 :=
  shapeCast _ (extractStridedSlice S2048x1 ![0, 0] ix slices_S2048x2_S2048x1_0_0) shapeCasts_S2048x1_S2048
def col1 (ix : IVec S2048x2 32) : IVec S2048 32 :=
  shapeCast _ (extractStridedSlice S2048x1 ![0, 1] ix slices_S2048x2_S2048x1_0_1) shapeCasts_S2048x1_S2048

/-- An index with `n` added where it is negative. -/
def wrapped (n : BitVec 32) (e : IVec S2048 32) : IVec S2048x1 32 :=
  broadcastInDim S2048x1 ![0] bcast_S2048_S2048x1_0
    (select (cmpi .slt e (broadcastInDim S2048 ![] bcast_S_S2048 (constantI S_ 32 0#32)))
      (addi e (broadcastInDim S2048 ![] bcast_S_S2048 (constantI S_ 32 n))) e)

/-- Row and expert of each token. -/
def pairs (e : IVec S2048 32) : IVec S2048x2 32 :=
  concatenate S2048x2 1 [⟨S2048x1, wrapped 2048#32 (iotaInDim S2048 32 0)⟩, ⟨S2048x1, wrapped 32#32 e⟩]
    concatenates_S2048x1_S2048x1_S2048x2_d1

/-- Each token's weight of the expert its index names. -/
def chosen (x : FVec Ideal S2048x512 .f32) (rw : FVec Ideal S512x32 .f32) (e : IVec S2048 32) : FVec Ideal S2048 .f32 :=
  Host.gather gather_S2048x32_S2048x2_S2048_n_01_n_n_01_1_11 (soft x rw) (pairs e)

/-- Each token times the expert its index names. -/
def product (x : FVec Ideal S2048x512 .f32) (W : FVec Ideal S32x512x1024 .f32) (e : IVec S2048 32) : FVec Ideal S2048x1024 .f32 :=
  Host.dotGeneral dot_S2048x512_S2048x512x1024_S2048x1024_1_1_n_2_0_0 none x
    (Host.gather gather_S32x512x1024_S2048x1_S2048x512x1024_12_0_n_n_0_1_15121024 W (wrapped 32#32 e))

/-- A column times every row's entries. -/
def scaled (g : FVec Ideal S2048 .f32) (y : FVec Ideal S2048x1024 .f32) : FVec Ideal S2048x1024 .f32 :=
  mulf (broadcastInDim S2048x1024 ![0, 1] bcast_S2048x1_S2048x1024_0_1 (broadcastInDim S2048x1 ![0] bcast_S2048_S2048x1_0 g)) y

/-- The reference's result as a function of its four arguments. -/
def result (x : FVec Ideal S2048x512 .f32) (rw : FVec Ideal S512x32 .f32) (ix : IVec S2048x2 32)
    (W : FVec Ideal S32x512x1024 .f32) : FVec Ideal S2048x1024 .f32 :=
  addf (scaled (Host.divf (chosen x rw (col0 ix)) (addf (chosen x rw (col0 ix)) (chosen x rw (col1 ix)))) (product x W (col0 ix)))
    (scaled (Host.divf (chosen x rw (col1 ix)) (addf (chosen x rw (col0 ix)) (chosen x rw (col1 ix)))) (product x W (col1 ix)))

theorem result_eq (m : (ℓ : Loc nD τ sig) → Buf (Elt Ideal) ℓ) (c : Dev nD) :
    Value.res_main_v68 m c = result (m ((c.tc : Thread nD τ).loc main_arg0)) (m ((c.tc : Thread nD τ).loc main_arg1))
      (m ((c.tc : Thread nD τ).loc main_arg2)) (m ((c.tc : Thread nD τ).loc main_arg3)) := rfl

/-! ## The parts at an index -/

variable (x : FVec Ideal S2048x512 .f32) (rw : FVec Ideal S512x32 .f32) (ix : IVec S2048x2 32)
  (W : FVec Ideal S32x512x1024 .f32)

/-- A token's score of one expert. -/
def score (r : Fin 2048) (k : Fin 32) : EReal := ∑ d : Fin 512, x (ix2 r d) * rw (ix2 d k)

theorem weights_at (r : Fin 2048) (k : Fin 32) : weights x rw (ix2 r k)
    = Ideal.exp (score x rw r k - Finset.fold max low (fun k' => score x rw r k') Finset.univ) := by
  pointwise [weights]
  rfl

theorem soft_at (r : Fin 2048) (k : Fin 32) : soft x rw (ix2 r k)
    = Ideal.div (weights x rw (ix2 r k)) (∑ k' : Fin 32, weights x rw (ix2 r k')) := by
  pointwise [soft]

theorem col0_at (r : Fin 2048) : col0 ix (ix1 r) = ix (ix2 r 0) := by pointwise [col0]
theorem col1_at (r : Fin 2048) : col1 ix (ix1 r) = ix (ix2 r 1) := by pointwise [col1]

theorem wrapped_at (n : BitVec 32) (e : IVec S2048 32) (r : Fin 2048) (a : ℕ) (ha : a < 2 ^ 31)
    (h : e (ix1 r) = BitVec.ofNat 32 a) : wrapped n e (ix2 r 0) = BitVec.ofNat 32 a := by
  pointwise [wrapped]
  rw [h]
  refine Scalar.select_of_ne_one (fun hc => ?_) _ _
  have h' := (StableHlo.Predicate.slt_iff_toNat (a := BitVec.ofNat 32 a) (b := 0#32)
    (by rw [BitVec.toNat_ofNat]; omega) (by norm_num)).1 hc
  simp at h'

theorem pairs_at0 (e : IVec S2048 32) (r : Fin 2048) : pairs e (ix2 r 0) = BitVec.ofNat 32 r.val := by
  have h : pairs e (ix2 r 0) = wrapped 2048#32 (iotaInDim S2048 32 0) (ix2 r 0) := by pointwise [pairs]
  rw [h]
  exact wrapped_at _ _ r r.val (by have := r.isLt; omega) (by pointwise)

theorem pairs_at1 (e : IVec S2048 32) (r : Fin 2048) : pairs e (ix2 r 1) = wrapped 32#32 e (ix2 r 0) := by
  pointwise [pairs]

theorem chosen_at (e : IVec S2048 32) (r : Fin 2048) (E : Fin 32) (h : e (ix1 r) = BitVec.ofNat 32 E.val) :
    chosen x rw e (ix1 r) = soft x rw (ix2 r E) := by
  have hE := E.isLt
  exact pick_gather _ _ r r E (pairs_at0 e r) ((pairs_at1 e r).trans (wrapped_at _ e r E.val (by omega) h))

theorem product_at (e : IVec S2048 32) (r : Fin 2048) (j : Fin 1024) (E : Fin 32) (h : e (ix1 r) = BitVec.ofNat 32 E.val) :
    product x W e (ix2 r j) = ∑ d : Fin 512, x (ix2 r d) * W (ix3 E d j) := by
  have hE := E.isLt
  pointwise [product]
  exact Finset.sum_congr rfl fun d _ => by rw [expert_gather W _ r d j E (wrapped_at _ e r E.val (by omega) h)]

/-- THE REFERENCE AT ONE ELEMENT: the two chosen experts' products by the two weights' shares. -/
theorem result_at (r : Fin 2048) (j : Fin 1024) (E0 E1 : Fin 32) (h0 : ix (ix2 r 0) = BitVec.ofNat 32 E0.val)
    (h1 : ix (ix2 r 1) = BitVec.ofNat 32 E1.val) (q : Fin 32 → ℝ) (hq : ∀ k, 0 < q k)
    (hp : ∀ k, Ideal.exp (score x rw r k - Finset.fold max low (fun k' => score x rw r k') Finset.univ) = (q k : EReal)) :
    result x rw ix W (ix2 r j) = ((q E0 / (q E0 + q E1) : ℝ) : EReal) * ∑ d : Fin 512, x (ix2 r d) * W (ix3 E0 d j)
      + ((q E1 / (q E0 + q E1) : ℝ) : EReal) * ∑ d : Fin 512, x (ix2 r d) * W (ix3 E1 d j) := by
  have hs : ∀ k, soft x rw (ix2 r k) = Ideal.div (q k : EReal) ((∑ k', q k' : ℝ) : EReal) := by
    intro k
    rw [soft_at]
    simp only [weights_at, hp]
    rw [coe_sum]
  have hz : 0 < ∑ k', q k' := Finset.sum_pos (fun k _ => hq k) ⟨0, Finset.mem_univ _⟩
  have e0 : col0 ix (ix1 r) = BitVec.ofNat 32 E0.val := (col0_at ix r).trans h0
  have e1 : col1 ix (ix1 r) = BitVec.ofNat 32 E1.val := (col1_at ix r).trans h1
  have hr : result x rw ix W (ix2 r j)
      = Ideal.div (chosen x rw (col0 ix) (ix1 r)) (chosen x rw (col0 ix) (ix1 r) + chosen x rw (col1 ix) (ix1 r))
          * product x W (col0 ix) (ix2 r j)
        + Ideal.div (chosen x rw (col1 ix) (ix1 r)) (chosen x rw (col0 ix) (ix1 r) + chosen x rw (col1 ix) (ix1 r))
          * product x W (col1 ix) (ix2 r j) := by
    pointwise [result, scaled]
  rw [hr, chosen_at x rw _ r E0 e0, chosen_at x rw _ r E1 e1, product_at x W _ r j E0 e0, product_at x W _ r j E1 e1, hs, hs,
    share_scaled _ _ _ (hq E0) (hq E1) hz, add_comm (Ideal.div (q E0 : EReal) _), share_scaled _ _ _ (hq E1) (hq E0) hz,
    add_comm (q E1) (q E0)]

end Cert.Proof.Ref

end
-- ==== Proof.Pre.lean ====
/-
  The precondition read at an index: every score is a finite number, and every routing index names one of the 32 experts.
-/
module

public import proofs.«01_k».proof.Defs
public import proofs.«01_k».proof.Proof.Reals

@[expose] public section

set_option maxRecDepth 16384

noncomputable section

namespace Cert.Proof

open Idealize.ShloMosaic Idealize.ShloMosaic.TcCoe

theorem pre_facts : Cert.Pre_routed_KernelIdeal.Facts := ⟨by decide, by decide, by decide, by decide, by decide, by decide, by decide⟩
theorem pre_facts_ref : Cert.Pre_routed_ReferenceIdeal.Facts := ⟨by decide, by decide, by decide, by decide, by decide, by decide, by decide⟩

section
open Cert.Pre_routed_KernelIdeal
attribute [local instance] pre_facts

theorem and_bits (a b : BitVec 1) (h : IntOp.andi a b = 1#1) : a = 1#1 ∧ b = 1#1 := by revert a b; decide

/-- A word that is at least zero and less than 32, both signed, holds a number below 32. -/
theorem small_word (a : BitVec 32) (h0 : IntOp.cmpi .sge a 0#32 = 1#1) (h1 : IntOp.cmpi .slt a 32#32 = 1#1) :
    ∃ E : Fin 32, a = BitVec.ofNat 32 E.val := by
  have h0' := (StableHlo.Predicate.ofBool_eq_one_iff _).1 (show BitVec.ofBool ((0#32).sle a) = 1#1 from h0)
  have h1' := (StableHlo.Predicate.ofBool_eq_one_iff _).1 (show BitVec.ofBool (a.slt 32#32) = 1#1 from h1)
  simp only [BitVec.sle, BitVec.slt, decide_eq_true_eq, BitVec.toInt_eq_toNat_cond, BitVec.toNat_ofNat] at h0' h1'
  have ha := a.isLt
  have hl : a.toNat < 32 := by split at h0' <;> split at h1' <;> simp_all <;> omega
  refine ⟨⟨a.toNat, hl⟩, BitVec.eq_of_toNat_eq ?_⟩
  rw [BitVec.toNat_ofNat, Nat.mod_eq_of_lt ha]

theorem finite_of_abs (s : EReal) (h : FloatOps.absf (F := Ideal) (φ := .f32) s < Ideal.ofBits FTy.f32 2139095040#32) : s ≠ ⊤ ∧ s ≠ ⊥ := by
  have ht : Ideal.ofBits FTy.f32 2139095040#32 = ⊤ := by simp [Ideal.ofBits, Ideal.ieee]
  have h' : max s (-s) < ⊤ := ht ▸ h
  have h2 := max_lt_iff.1 h'
  exact ⟨h2.1.ne, fun e => by subst e; simp at h2⟩

variable (x : FVec Ideal S2048x512 .f32) (rw : FVec Ideal S512x32 .f32) (ix : IVec S2048x2 32) (W : FVec Ideal S4x512x1024 .f32)

theorem pre_at (h : Cert.Pre_routed_KernelIdeal.fn (F := Ideal) x rw ix W = fun _ => 1#1) (r : Fin 2048) (k : Fin 32) (a : Fin 2) :
    ((∑ d : Fin 512, x (ix2 r d) * rw (ix2 d k)) ≠ ⊤ ∧ (∑ d : Fin 512, x (ix2 r d) * rw (ix2 d k)) ≠ ⊥)
      ∧ ∃ E : Fin 32, ix (ix2 r a) = BitVec.ofNat 32 E.val := by
  have h' := congrFun h (ix3 r k a)
  revert h'
  pointwise [fn]
  intro h'
  obtain ⟨h1, h2⟩ := and_bits _ _ h'
  obtain ⟨h3, h4⟩ := and_bits _ _ h2
  exact ⟨finite_of_abs _ (of_decide_eq_true ((StableHlo.Predicate.ofBool_eq_one_iff _).1 h1)), small_word _ h3 h4⟩

end

end Cert.Proof

end
-- ==== Proof.Value.lean ====
/-
  The kernel's result is the reference's: what each load reads of the arguments, the sum over devices as the sum over all
  experts, and the two programs' runs side by side.
-/
module

public import proofs.«01_k».proof.Proof.KernelValue
public import proofs.«01_k».proof.Proof.RefValue
public import proofs.«01_k».proof.Proof.Pre

@[expose] public section

set_option maxRecDepth 16384

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The staged arrays are the arguments -/

theorem xstg_eq : xstg m c = m ((c.tc : Thread nD τ).loc main_arg0) :=
  Memref.read_access_unit_zero (Elt Ideal) main_arg0 (funext fun a => by fin_cases a <;> decide) (fun a => by fin_cases a <;> decide) _
theorem rwstg_eq : rwstg m c = m ((c.tc : Thread nD τ).loc main_arg1) :=
  Memref.read_access_unit_zero (Elt Ideal) main_arg1 (funext fun a => by fin_cases a <;> decide) (fun a => by fin_cases a <;> decide) _
theorem ixstg_eq : ixstg m c = m ((c.tc : Thread nD τ).loc main_arg2) :=
  Memref.read_access_unit_zero (Elt Ideal) main_arg2 (funext fun a => by fin_cases a <;> decide) (fun a => by fin_cases a <;> decide) _
theorem ewstg_eq : ewstg m c = m ((c.tc : Thread nD τ).loc main_arg3) :=
  Memref.read_access_unit_zero (Elt Ideal) main_arg3 (funext fun a => by fin_cases a <;> decide) (fun a => by fin_cases a <;> decide) _

/-- The arguments as the arrays they are. -/
abbrev argX : FVec Ideal S2048x512 .f32 := m ((c.tc : Thread nD τ).loc main_arg0)
abbrev argR : FVec Ideal S512x32 .f32 := m ((c.tc : Thread nD τ).loc main_arg1)
abbrev argI : IVec S2048x2 32 := m ((c.tc : Thread nD τ).loc main_arg2)
abbrev argW : FVec Ideal S4x512x1024 .f32 := m ((c.tc : Thread nD τ).loc main_arg3)

/-- Row `a` of tile `h`. -/
def row (h : Fin 16) (a : Fin 128) : Fin 2048 := ⟨128 * h.val + a.val, by have := h.isLt; have := a.isLt; omega⟩

/-- Where an entry of a rectangle lies. -/
theorem unit_val {s : Shape} (off size : Fin s.rank → ℕ) (inb : ∀ a, off a + size a ≤ s.size a)
    (t : (Rect.unit (s := s) off size inb).shape.Idx) (b : Fin s.rank) : ((Rect.unit off size inb).emb t b).val = off b + (t b).val := by
  show off b + 1 * (t b).val = _
  rw [Nat.one_mul]

theorem emb_x (h : Fin 16) (a : Fin 128) (d : Fin 512) : (xR h).emb (ix2 a d) = ix2 (row h a) d := by
  funext b; refine Fin.ext ((unit_val _ _ _ _ _).trans ?_); fin_cases b <;> simp [row]
theorem emb_0 (h : Fin 16) (a : Fin 128) : (i0R h).emb (ix2 a 0) = ix2 (row h a) 0 := by
  funext b; refine Fin.ext ((unit_val _ _ _ _ _).trans ?_); fin_cases b <;> simp [row]
theorem emb_1 (h : Fin 16) (a : Fin 128) : (i1R h).emb (ix2 a 0) = ix2 (row h a) 1 := by
  funext b; refine Fin.ext ((unit_val _ _ _ _ _).trans ?_); fin_cases b <;> simp [row]
theorem emb_o (h : Fin 16) (a : Fin 128) (j : Fin 1024) : (oR h).emb (ix2 a j) = ix2 (row h a) j := by
  funext b; refine Fin.ext ((unit_val _ _ _ _ _).trans ?_); fin_cases b <;> simp [row]

theorem xT_at (h : Fin 16) (a : Fin 128) (d : Fin 512) : xT m c h (ix2 a d) = argX m c (ix2 (row h a) d) := by
  have e : xT m c h (ix2 a d) = xstg m c ((xR h).emb (ix2 a d)) := rfl
  rw [e, xstg_eq, emb_x]
theorem i0T_at (h : Fin 16) (a : Fin 128) : i0T m c h (ix2 a 0) = argI m c (ix2 (row h a) 0) := by
  have e : i0T m c h (ix2 a 0) = ixstg m c ((i0R h).emb (ix2 a 0)) := rfl
  rw [e, ixstg_eq, emb_0]
theorem i1T_at (h : Fin 16) (a : Fin 128) : i1T m c h (ix2 a 0) = argI m c (ix2 (row h a) 1) := by
  have e : i1T m c h (ix2 a 0) = ixstg m c ((i1R h).emb (ix2 a 0)) := rfl
  rw [e, ixstg_eq, emb_1]
theorem rwT_at (d : Fin 512) (k : Fin 32) : rwT m c (ix2 d k) = argR m c (ix2 d k) := by
  have e : rwT m c (ix2 d k) = rwstg m c (rwR.emb (ix2 d k)) := rfl
  have e' : rwR.emb (ix2 d k) = ix2 d k := by
    funext b; refine Fin.ext ((unit_val _ _ _ _ _).trans ?_); fin_cases b <;> simp
  rw [e, rwstg_eq, e']
/-- What the load of the device's expert `k` reads. -/
theorem ew_at (k : Fin 4) (inb : ∀ a, (![k.val, 0, 0] : Fin 3 → ℕ) a + S1x512x1024.size a ≤ S4x512x1024.size a)
    (d : Fin 512) (j : Fin 1024) :
    ewM.view.readAt (Elt Ideal) (Rect.unit (s := S4x512x1024) ![k.val, 0, 0] S1x512x1024.size inb).toLoadRect (ewstg m c) (ix3 0 d j)
      = argW m c (ix3 k d j) := by
  show ewstg m c ((Rect.unit (s := S4x512x1024) ![k.val, 0, 0] S1x512x1024.size inb).emb (ix3 0 d j)) = _
  have e' : (Rect.unit (s := S4x512x1024) ![k.val, 0, 0] S1x512x1024.size inb).emb (ix3 0 d j) = ix3 k d j := by
    funext b; refine Fin.ext ((unit_val _ _ _ _ _).trans ?_); fin_cases b <;> simp
  rw [ewstg_eq, e']

/-- Entry of device `c`'s block of the experts. -/
theorem block_at (W : FVec Ideal ⟨3, ![32, 512, 1024]⟩ .f32) (k : Fin 4) (d : Fin 512) (j : Fin 1024) :
    (Layout.block ⟨3, ![4, 512, 1024]⟩ ⟨3, ![32, 512, 1024]⟩ 0 8 c W : FVec Ideal S4x512x1024 .f32) (ix3 k d j) = W (ix3 (exp4 c k) d j) := by
  rw [Layout.block_apply]
  congr 1
  funext b
  refine Fin.ext ?_
  rw [Layout.Tiles.idx_val]
  fin_cases b <;> simp [exp4] <;> omega

/-! ## The result -/

/-- The result array after the run. -/
theorem finalA_out : finalA m ρ c 4 = outAt m c := by
  have h : (win0_4.blk (0 : Fin 1)).view.read (Elt Ideal) (finalA m ρ c (4 : Fin 5)) = outAt m c := by
    unfold finalA
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact (Memref.read_access_unit_zero (Elt Ideal) main_v1 (funext fun a => by fin_cases a <;> decide)
    (fun a => by fin_cases a <;> decide) _).symm.trans h

variable (x : FVec Ideal S2048x512 .f32) (rw : FVec Ideal S512x32 .f32) (ix : IVec S2048x2 32)
  (W : FVec Ideal ⟨3, ![32, 512, 1024]⟩ .f32)

/-- Every device's part of an element, when all devices hold the same tokens, router and indices and each its own block of
    the experts. -/
theorem part_at (hx : argX m c = x) (hr : argR m c = rw) (hi : argI m c = ix)
    (hw : argW m c = Layout.block ⟨3, ![4, 512, 1024]⟩ ⟨3, ![32, 512, 1024]⟩ 0 8 c W)
    (h : Fin 16) (a : Fin 128) (j : Fin 1024) (E0 E1 : Fin 32) (h0 : ix (ix2 (row h a) 0) = BitVec.ofNat 32 E0.val)
    (h1 : ix (ix2 (row h a) 1) = BitVec.ofNat 32 E1.val) (q : Fin 32 → ℝ) (hq : ∀ k, 0 < q k)
    (hp : ∀ k, Ideal.exp (Ref.score x rw (row h a) k - Finset.fold max low (fun k' => Ref.score x rw (row h a) k') Finset.univ)
      = (q k : EReal)) :
    part m c h (ix2 a j)
      = gated E0 E1 (q E0 / (q E0 + q E1)) (q E1 / (q E0 + q E1)) (fun d => x (ix2 (row h a) d)) (fun e d => W (ix3 e d j)) (exp4 c 0)
        + gated E0 E1 (q E0 / (q E0 + q E1)) (q E1 / (q E0 + q E1)) (fun d => x (ix2 (row h a) d)) (fun e d => W (ix3 e d j)) (exp4 c 1)
        + gated E0 E1 (q E0 / (q E0 + q E1)) (q E1 / (q E0 + q E1)) (fun d => x (ix2 (row h a) d)) (fun e d => W (ix3 e d j)) (exp4 c 2)
        + gated E0 E1 (q E0 / (q E0 + q E1)) (q E1 / (q E0 + q E1)) (fun d => x (ix2 (row h a) d)) (fun e d => W (ix3 e d j)) (exp4 c 3) := by
  have hs : ∀ k, tscore (xT m c h) (rwT m c) a k = Ref.score x rw (row h a) k := fun k =>
    Finset.sum_congr rfl fun d _ => by rw [xT_at, rwT_at, hx, hr]
  have hX : (fun d : Fin 512 => (xT m c h : FVec Ideal S128x512 .f32) (ix2 a d)) = fun d => x (ix2 (row h a) d) :=
    funext fun d => by rw [xT_at, hx]
  have hW : ∀ (k : Fin 4) (d : Fin 512), argW m c (ix3 k d j) = W (ix3 (exp4 c k) d j) := fun k d => by rw [hw, block_at]
  have hh := half_at c (xT m c h) (i0T m c h) (i1T m c h) (rwT m c) (ewT0 m c) (ewT1 m c) (ewT2 m c) (ewT3 m c) a j E0 E1
    (by rw [i0T_at, hi, h0]) (by rw [i1T_at, hi, h1]) q hq (fun k => by simp only [hs]; exact hp k) (fun e d => W (ix3 e d j))
    (fun d => (ew_at m c 0 _ d j).trans (hW 0 d)) (fun d => (ew_at m c 1 _ d j).trans (hW 1 d))
    (fun d => (ew_at m c 2 _ d j).trans (hW 2 d)) (fun d => (ew_at m c 3 _ d j).trans (hW 3 d))
  rw [hX] at hh
  exact hh

/-- THE KERNEL'S RESULT IS THE REFERENCE'S. -/
theorem outAt_result (hx : ∀ e, argX m e = x) (hr : ∀ e, argR m e = rw) (hi : ∀ e, argI m e = ix)
    (hw : ∀ e : Dev nD, argW m e = Layout.block ⟨3, ![4, 512, 1024]⟩ ⟨3, ![32, 512, 1024]⟩ 0 8 e W)
    (hfin : ∀ r k, Ref.score x rw r k ≠ ⊤ ∧ Ref.score x rw r k ≠ ⊥)
    (hidx : ∀ (r : Fin 2048) (b : Fin 2), ∃ E : Fin 32, ix (ix2 r b) = BitVec.ofNat 32 E.val) :
    (outAt m c : FVec Ideal S2048x1024 .f32) = Ref.result x rw ix W := by
  funext i
  obtain ⟨h, t, rfl, ho⟩ := outAt_sum m c i
  obtain ⟨a, j, rfl⟩ : ∃ (a : Fin 128) (j : Fin 1024), t = ix2 a j := ⟨t 0, t 1, eq_ix2 t⟩
  refine ho.trans ?_
  rw [emb_o]
  obtain ⟨E0, h0⟩ := hidx (row h a) 0
  obtain ⟨E1, h1⟩ := hidx (row h a) 1
  obtain ⟨q, hq, hp⟩ := weights_pos (fun k => Ref.score x rw (row h a) k) (fun k => (hfin _ k).1) (fun k => (hfin _ k).2)
  have hA : 0 ≤ q E0 / (q E0 + q E1) := (div_pos (hq _) (add_pos (hq _) (hq _))).le
  have hB : 0 ≤ q E1 / (q E0 + q E1) := (div_pos (hq _) (add_pos (hq _) (hq _))).le
  refine Eq.trans ?_ (Ref.result_at x rw ix W (row h a) j E0 E1 h0 h1 q hq hp).symm
  refine Eq.trans ?_ (gated_sum E0 E1 _ _ hA hB (fun d => x (ix2 (row h a) d)) (fun e d => W (ix3 e d j)))
  refine Eq.trans ?_ (sum_experts _).symm
  exact Finset.sum_congr (M := EReal) rfl fun e _ => part_at m e x rw ix W (hx e) (hr e) (hi e) (hw e) h a j E0 E1 h0 h1 q hq hp

/-! ## The two runs -/

/-- The kernel computes the reference's result over the extended reals, on every device. -/
theorem algebraic : Cert.algebraic_KernelIdeal_ReferenceIdeal_pre_routed_KernelIdeal (hPre_routed_KernelIdeal := pre_facts) := by
  intro m g m' g' hpre hagree
  refine ⟨Cert.ReferenceIdeal.Value.res_main_v68 m' 0, ?_, ?_⟩
  · refine (θ_run defs _ _).mono (fun r h c => ⟨(h.1 c 4).trans ((finalA_out m g c).trans ?_),
      (h.1 c 0).trans (finalA_in m g c 0 (by decide)), (h.1 c 1).trans (finalA_in m g c 1 (by decide)),
      (h.1 c 2).trans (finalA_in m g c 2 (by decide)), (h.1 c 3).trans (finalA_in m g c 3 (by decide))⟩) (run_main (F := Ideal) m g)
    rw [Ref.result_eq]
    have hp := hpre c
    rw [(hagree c).1, (hagree c).2.1, (hagree c).2.2.1] at hp
    exact outAt_result m c _ _ _ _ (fun e => (hagree e).1) (fun e => (hagree e).2.1) (fun e => (hagree e).2.2.1)
      (fun e => (hagree e).2.2.2) (fun r k => (pre_at _ _ _ _ hp r k 0).1) (fun r b => (pre_at _ _ _ _ hp r 0 b).2)
  · exact (θ_run Cert.ReferenceIdeal.defs _ _).mono (fun r h => h 0) (Cert.ReferenceIdeal.Value.run (F := Ideal) m' g')

end Cert.Proof

end
-- ==== Proof.lean ====
/-
  The certificate: the kernel's frames, over words and over the extended reals, the reference's frame, `preserves` (no
  operation was rewritten), and `algebraic`: over the extended reals the kernel's result on every device is the
  reference's.
-/
module

public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  pre_facts, pre_facts_ref, frame_kernel, frame_ideal, fun m ρ _ => frame_ideal m ρ trivial, frame_reference,
  fun m ρ _ => frame_reference m ρ trivial, trivial, algebraic⟩

end Cert.Proof

end
